-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_min_nonzero [hPre_min_nonzero : Cert.Pre_min_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_min_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_min_nonzero [hPre_min_nonzero : Cert.Pre_min_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_min_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_min_nonzero [hKernelIdeal : Cert.KernelIdeal.Facts] [hPre_min_nonzero : Cert.Pre_min_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_min_nonzero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_min_nonzero [hReferenceIdeal : Cert.ReferenceIdeal.Facts] [hPre_min_nonzero : Cert.Pre_min_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_min_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_min_nonzero [hKernelIdeal : Cert.KernelIdeal.Facts] [hReferenceIdeal : Cert.ReferenceIdeal.Facts] [hPre_min_nonzero : Cert.Pre_min_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_min_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_min_nonzero : Cert.Pre_min_nonzero.Facts),
    quiescent_Kernel (hKernel := hKernel)
    ∧ quiescent_KernelIdeal (hKernelIdeal := hKernelIdeal)
    ∧ quiescent_KernelIdeal_pre_min_nonzero (hKernelIdeal := hKernelIdeal) (hPre_min_nonzero := hPre_min_nonzero)
    ∧ quiescent_ReferenceIdeal (hReferenceIdeal := hReferenceIdeal)
    ∧ quiescent_ReferenceIdeal_pre_min_nonzero (hReferenceIdeal := hReferenceIdeal) (hPre_min_nonzero := hPre_min_nonzero)
    ∧ preserves_Kernel_KernelIdeal
    ∧ algebraic_KernelIdeal_ReferenceIdeal_pre_min_nonzero (hKernelIdeal := hKernelIdeal) (hReferenceIdeal := hReferenceIdeal) (hPre_min_nonzero := hPre_min_nonzero)
-- ==== Pre_min_nonzero.lean ====
abbrev S4096x4096 : Shape := ⟨2, ![4096, 4096]⟩
abbrev S_ : Shape := ⟨0, ![]⟩

class Facts : Prop where
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_cst : FVec F S_ .f32 := constant S_ .f32 0x7F800000#32
  let main_v0 : FVec F S_ .f32 := (fun x v => Host.reduce FloatOps.minimumf x v reducesTo_S4096x4096_S_d0_1 h_S_) main_arg0 main_cst
  let main_cst_0 : FVec F S_ .f32 := constant S_ .f32 0x00000000#32
  let main_v1 : IVec S_ 1 := cmpf .une main_v0 main_cst_0
  main_v1
-- ==== Kernel.lean ====
abbrev S4096x4096 : Shape := ⟨2, ![4096, 4096]⟩
abbrev S1x1 : Shape := ⟨2, ![1, 1]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S_ : Shape := ⟨0, ![]⟩
abbrev S16 : Shape := ⟨1, ![16]⟩
abbrev S16777216 : Shape := ⟨1, ![16777216]⟩
abbrev S524288 : Shape := ⟨1, ![524288]⟩
abbrev S16384 : Shape := ⟨1, ![16384]⟩
abbrev S32768 : Shape := ⟨1, ![32768]⟩
abbrev S512x1024 : Shape := ⟨2, ![512, 1024]⟩
abbrev S1024 : Shape := ⟨1, ![1024]⟩
abbrev S1x1024 : Shape := ⟨2, ![1, 1024]⟩
abbrev S1x256 : Shape := ⟨2, ![1, 256]⟩
abbrev S1x1x256 : Shape := ⟨3, ![1, 1, 256]⟩

abbrev nBuf : Table → Nat
  | .hbm => 11
  | .local .tc .vmem => 3
  | .local .tc .smem => 2
  | .local .scVector .vmem => 4
  | _ => 0

abbrev bufTy : (tb : Table) → Fin (nBuf tb) → BufTy
  | .hbm, ⟨0, _⟩ => ⟨S4096x4096, .f32⟩
  | .hbm, ⟨1, _⟩ => ⟨S4096x4096, .f32⟩
  | .hbm, ⟨2, _⟩ => ⟨S1x1, .f32⟩
  | .hbm, ⟨3, _⟩ => ⟨S_, .f32⟩
  | .hbm, ⟨4, _⟩ => ⟨S16, .f32⟩
  | .hbm, ⟨5, _⟩ => ⟨S16777216, .f32⟩
  | .hbm, ⟨6, _⟩ => ⟨S16777216, .f32⟩
  | .hbm, ⟨7, _⟩ => ⟨S524288, .f32⟩
  | .hbm, ⟨8, _⟩ => ⟨S512x1024, .f32⟩
  | .hbm, ⟨9, _⟩ => ⟨S1x1, .f32⟩
  | .hbm, ⟨10, _⟩ => ⟨S_, .f32⟩
  | .local .tc .vmem, ⟨0, _⟩ => ⟨S256x4096, .f32⟩
  | .local .tc .vmem, ⟨1, _⟩ => ⟨S256x4096, .f32⟩
  | .local .tc .vmem, ⟨2, _⟩ => ⟨S512x1024, .f32⟩
  | .local .tc .smem, ⟨0, _⟩ => ⟨S1x1, .f32⟩
  | .local .tc .smem, ⟨1, _⟩ => ⟨S1x1, .f32⟩
  | .local .scVector .vmem, ⟨0, _⟩ => ⟨S16, .f32⟩
  | .local .scVector .vmem, ⟨1, _⟩ => ⟨S16384, .f32⟩
  | .local .scVector .vmem, ⟨2, _⟩ => ⟨S32768, .f32⟩
  | .local .scVector .vmem, ⟨3, _⟩ => ⟨S32768, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v3_scv : Ref sig .scVector := ⟨.hbm, 5, rfl⟩
abbrev main_v4_scv : Ref sig .scVector := ⟨.hbm, 6, rfl⟩
abbrev main_v2_scv : Ref sig .scVector := ⟨.hbm, 4, rfl⟩
abbrev main_v5_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc2_stg0_0 : Ref sig .tc := ⟨.vmem, 2, rfl⟩
abbrev cc0_stg1_0 : Ref sig .tc := ⟨.smem, 0, rfl⟩
abbrev cc2_stg1_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc2_sem0_0 : DmaSem sig := 7
abbrev cc2_sem1_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

@[reducible] def k1_t1_loop : Scf.Loop 32 :=
  let c0_i32_0 : BitVec 32 := 0#32
  let c1024_i32 : BitVec 32 := 1024#32
  let v4 : BitVec 32 := Scalar.addi c0_i32_0 c1024_i32
  let c1_i32 : BitVec 32 := 1#32
  ⟨c0_i32_0, v4, c1_i32⟩
def k1_off1 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32_18 : BitVec 32 := 16#32
  let v23 : BitVec 32 := Scalar.muli arg12 c16_i32_18
  let v24 : Index := Scalar.indexCast v23
  ![v24.toNat]
def k1_cond1 : BitVec 1 :=
  let c0_i32_5 : BitVec 32 := 0#32
  let c16_i32 : BitVec 32 := 16#32
  let v13 : BitVec 1 := Scalar.cmpi .slt c0_i32_5 c16_i32
  let v14 : BitVec 32 := Scalar.extui v13
  let c0_i32_7 : BitVec 32 := 0#32
  let v15 : BitVec 1 := Scalar.cmpi .ne v14 c0_i32_7
  v15

def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_6 : BitVec 32 := 0#32
  let c32768_i32 : BitVec 32 := 32768#32
  let v23 : BitVec 32 := Scalar.muli c0_i32_6 c32768_i32
  let v24 : BitVec 32 := Scalar.addi v2 v23
  ![v24.toNat]
def k1_cond2 : BitVec 1 :=
  let c0_i32_8 : BitVec 32 := 0#32
  let c16_i32_9 : BitVec 32 := 16#32
  let v16 : BitVec 1 := Scalar.cmpi .sge c0_i32_8 c16_i32_9
  let c0_i32_10 : BitVec 32 := 0#32
  let c32_i32 : BitVec 32 := 32#32
  let v17 : BitVec 1 := Scalar.cmpi .slt c0_i32_10 c32_i32
  let v18 : BitVec 1 := Scalar.andi v16 v17
  let v19 : BitVec 32 := Scalar.extui v18
  let c0_i32_12 : BitVec 32 := 0#32
  let v20 : BitVec 1 := Scalar.cmpi .ne v19 c0_i32_12
  v20

def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_11 : BitVec 32 := 0#32
  let c16_i32_18 : BitVec 32 := 16#32
  let v23 : BitVec 32 := Scalar.subi c0_i32_11 c16_i32_18
  let c32768_i32 : BitVec 32 := 32768#32
  let v24 : BitVec 32 := Scalar.muli v23 c32768_i32
  let v25 : BitVec 32 := Scalar.addi v2 v24
  ![v25.toNat]
@[reducible] def k1_t2_loop : Scf.Loop 32 :=
  let c0_i32_14 : BitVec 32 := 0#32
  let c16_i32_15 : BitVec 32 := 16#32
  let v21 : BitVec 32 := Scalar.addi c0_i32_14 c16_i32_15
  let c1_i32_16 : BitVec 32 := 1#32
  ⟨c0_i32_14, v21, c1_i32_16⟩
def k1_cond3 (k1_t2 : Fin k1_t2_loop.trips) : BitVec 1 :=
  let c0_i32_14 : BitVec 32 := 0#32
  let c1_i32_16 : BitVec 32 := 1#32
  let arg12 : BitVec 32 := Scf.iv c0_i32_14 c1_i32_16 k1_t2
  let c2_i32_18 : BitVec 32 := 2#32
  let v23 : BitVec 32 := Scalar.muli arg12 c2_i32_18
  let c0_i32_19 : BitVec 32 := 0#32
  let v24 : BitVec 32 := Scalar.addi v23 c0_i32_19
  let c1_i32_20 : BitVec 32 := 1#32
  let v25 : BitVec 32 := Scalar.addi v24 c1_i32_20
  let c16_i32_21 : BitVec 32 := 16#32
  let v26 : BitVec 1 := Scalar.cmpi .slt v25 c16_i32_21
  let v27 : BitVec 32 := Scalar.extui v26
  let c0_i32_22 : BitVec 32 := 0#32
  let v28 : BitVec 1 := Scalar.cmpi .ne v27 c0_i32_22
  v28

def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_14 : BitVec 32 := 0#32
  let c1_i32_16 : BitVec 32 := 1#32
  let arg12 : BitVec 32 := Scf.iv c0_i32_14 c1_i32_16 k1_t2
  let c2_i32_18 : BitVec 32 := 2#32
  let v23 : BitVec 32 := Scalar.muli arg12 c2_i32_18
  let c0_i32_19 : BitVec 32 := 0#32
  let v24 : BitVec 32 := Scalar.addi v23 c0_i32_19
  let c1_i32_20 : BitVec 32 := 1#32
  let v25 : BitVec 32 := Scalar.addi v24 c1_i32_20
  let c32768_i32 : BitVec 32 := 32768#32
  let v59 : BitVec 32 := Scalar.muli v25 c32768_i32
  let v60 : BitVec 32 := Scalar.addi v2 v59
  ![v60.toNat]
def k1_cond4 (k1_t2 : Fin k1_t2_loop.trips) : BitVec 1 :=
  let c0_i32_14 : BitVec 32 := 0#32
  let c1_i32_16 : BitVec 32 := 1#32
  let arg12 : BitVec 32 := Scf.iv c0_i32_14 c1_i32_16 k1_t2
  let c2_i32_18 : BitVec 32 := 2#32
  let v23 : BitVec 32 := Scalar.muli arg12 c2_i32_18
  let c0_i32_19 : BitVec 32 := 0#32
  let v24 : BitVec 32 := Scalar.addi v23 c0_i32_19
  let c1_i32_20 : BitVec 32 := 1#32
  let v25 : BitVec 32 := Scalar.addi v24 c1_i32_20
  let c16_i32_23 : BitVec 32 := 16#32
  let v29 : BitVec 1 := Scalar.cmpi .sge v25 c16_i32_23
  let c32_i32_24 : BitVec 32 := 32#32
  let v30 : BitVec 1 := Scalar.cmpi .slt v25 c32_i32_24
  let v31 : BitVec 1 := Scalar.andi v29 v30
  let v32 : BitVec 32 := Scalar.extui v31
  let c0_i32_25 : BitVec 32 := 0#32
  let v33 : BitVec 1 := Scalar.cmpi .ne v32 c0_i32_25
  v33

def k1_off5 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_14 : BitVec 32 := 0#32
  let c1_i32_16 : BitVec 32 := 1#32
  let arg12 : BitVec 32 := Scf.iv c0_i32_14 c1_i32_16 k1_t2
  let c2_i32_18 : BitVec 32 := 2#32
  let v23 : BitVec 32 := Scalar.muli arg12 c2_i32_18
  let c0_i32_19 : BitVec 32 := 0#32
  let v24 : BitVec 32 := Scalar.addi v23 c0_i32_19
  let c1_i32_20 : BitVec 32 := 1#32
  let v25 : BitVec 32 := Scalar.addi v24 c1_i32_20
  let c16_i32_52 : BitVec 32 := 16#32
  let v59 : BitVec 32 := Scalar.subi v25 c16_i32_52
  let c32768_i32 : BitVec 32 := 32768#32
  let v60 : BitVec 32 := Scalar.muli v59 c32768_i32
  let v61 : BitVec 32 := Scalar.addi v2 v60
  ![v61.toNat]
@[reducible] def k1_t3_loop : Scf.Loop 32 :=
  let c0_i32_31 : BitVec 32 := 0#32
  let c256_i32 : BitVec 32 := 256#32
  let v40 : BitVec 32 := Scalar.addi c0_i32_31 c256_i32
  let c1_i32_32 : BitVec 32 := 1#32
  ⟨c0_i32_31, v40, c1_i32_32⟩
def k1_off6 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32 : BitVec 32 := 8#32
  let v59 : BitVec 32 := Scalar.muli arg13 c8_i32
  let c0_i32_52 : BitVec 32 := 0#32
  let v60 : BitVec 32 := Scalar.addi v59 c0_i32_52
  let c16_i32_53 : BitVec 32 := 16#32
  let v61 : BitVec 32 := Scalar.muli v60 c16_i32_53
  let v62 : Index := Scalar.indexCast v61
  ![v62.toNat]

def k1_chk1 (v77 : IVec S16 32) : Prop :=
  (∀ a x, ((![v77] : Fin 1 → IVec S16 32) a x).toNat < S16384.size a)
theorem k1_idx1_inb : ∀ (v77 : IVec S16 32) (k1_hw1 : k1_chk1 v77), ∀ a x, ((![v77] : Fin 1 → IVec S16 32) a x).toNat < S16384.size a := fun v77 k1_hw1 => k1_hw1

def k1_chk2 (v81 : IVec S16 32) : Prop :=
  (∀ a x, ((![v81] : Fin 1 → IVec S16 32) a x).toNat < S16384.size a)
theorem k1_idx2_inb : ∀ (v81 : IVec S16 32) (k1_hw2 : k1_chk2 v81), ∀ a x, ((![v81] : Fin 1 → IVec S16 32) a x).toNat < S16384.size a := fun v81 k1_hw2 => k1_hw2
def k1_off7 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_58 : BitVec 32 := 8#32
  let v82 : BitVec 32 := Scalar.muli arg13 c8_i32_58
  let c1_i32_59 : BitVec 32 := 1#32
  let v83 : BitVec 32 := Scalar.addi v82 c1_i32_59
  let c16_i32_60 : BitVec 32 := 16#32
  let v84 : BitVec 32 := Scalar.muli v83 c16_i32_60
  let v85 : Index := Scalar.indexCast v84
  ![v85.toNat]

def k1_chk3 (v100 : IVec S16 32) : Prop :=
  (∀ a x, ((![v100] : Fin 1 → IVec S16 32) a x).toNat < S16384.size a)
theorem k1_idx3_inb : ∀ (v100 : IVec S16 32) (k1_hw3 : k1_chk3 v100), ∀ a x, ((![v100] : Fin 1 → IVec S16 32) a x).toNat < S16384.size a := fun v100 k1_hw3 => k1_hw3

def k1_chk4 (v104 : IVec S16 32) : Prop :=
  (∀ a x, ((![v104] : Fin 1 → IVec S16 32) a x).toNat < S16384.size a)
theorem k1_idx4_inb : ∀ (v104 : IVec S16 32) (k1_hw4 : k1_chk4 v104), ∀ a x, ((![v104] : Fin 1 → IVec S16 32) a x).toNat < S16384.size a := fun v104 k1_hw4 => k1_hw4
def k1_off8 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_66 : BitVec 32 := 8#32
  let v105 : BitVec 32 := Scalar.muli arg13 c8_i32_66
  let c2_i32_67 : BitVec 32 := 2#32
  let v106 : BitVec 32 := Scalar.addi v105 c2_i32_67
  let c16_i32_68 : BitVec 32 := 16#32
  let v107 : BitVec 32 := Scalar.muli v106 c16_i32_68
  let v108 : Index := Scalar.indexCast v107
  ![v108.toNat]

def k1_chk5 (v123 : IVec S16 32) : Prop :=
  (∀ a x, ((![v123] : Fin 1 → IVec S16 32) a x).toNat < S16384.size a)
theorem k1_idx5_inb : ∀ (v123 : IVec S16 32) (k1_hw5 : k1_chk5 v123), ∀ a x, ((![v123] : Fin 1 → IVec S16 32) a x).toNat < S16384.size a := fun v123 k1_hw5 => k1_hw5

def k1_chk6 (v127 : IVec S16 32) : Prop :=
  (∀ a x, ((![v127] : Fin 1 → IVec S16 32) a x).toNat < S16384.size a)
theorem k1_idx6_inb : ∀ (v127 : IVec S16 32) (k1_hw6 : k1_chk6 v127), ∀ a x, ((![v127] : Fin 1 → IVec S16 32) a x).toNat < S16384.size a := fun v127 k1_hw6 => k1_hw6
def k1_off9 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_74 : BitVec 32 := 8#32
  let v128 : BitVec 32 := Scalar.muli arg13 c8_i32_74
  let c3_i32 : BitVec 32 := 3#32
  let v129 : BitVec 32 := Scalar.addi v128 c3_i32
  let c16_i32_75 : BitVec 32 := 16#32
  let v130 : BitVec 32 := Scalar.muli v129 c16_i32_75
  let v131 : Index := Scalar.indexCast v130
  ![v131.toNat]

def k1_chk7 (v146 : IVec S16 32) : Prop :=
  (∀ a x, ((![v146] : Fin 1 → IVec S16 32) a x).toNat < S16384.size a)
theorem k1_idx7_inb : ∀ (v146 : IVec S16 32) (k1_hw7 : k1_chk7 v146), ∀ a x, ((![v146] : Fin 1 → IVec S16 32) a x).toNat < S16384.size a := fun v146 k1_hw7 => k1_hw7

def k1_chk8 (v150 : IVec S16 32) : Prop :=
  (∀ a x, ((![v150] : Fin 1 → IVec S16 32) a x).toNat < S16384.size a)
theorem k1_idx8_inb : ∀ (v150 : IVec S16 32) (k1_hw8 : k1_chk8 v150), ∀ a x, ((![v150] : Fin 1 → IVec S16 32) a x).toNat < S16384.size a := fun v150 k1_hw8 => k1_hw8
def k1_off10 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_81 : BitVec 32 := 8#32
  let v151 : BitVec 32 := Scalar.muli arg13 c8_i32_81
  let c4_i32 : BitVec 32 := 4#32
  let v152 : BitVec 32 := Scalar.addi v151 c4_i32
  let c16_i32_82 : BitVec 32 := 16#32
  let v153 : BitVec 32 := Scalar.muli v152 c16_i32_82
  let v154 : Index := Scalar.indexCast v153
  ![v154.toNat]

def k1_chk9 (v169 : IVec S16 32) : Prop :=
  (∀ a x, ((![v169] : Fin 1 → IVec S16 32) a x).toNat < S16384.size a)
theorem k1_idx9_inb : ∀ (v169 : IVec S16 32) (k1_hw9 : k1_chk9 v169), ∀ a x, ((![v169] : Fin 1 → IVec S16 32) a x).toNat < S16384.size a := fun v169 k1_hw9 => k1_hw9

def k1_chk10 (v173 : IVec S16 32) : Prop :=
  (∀ a x, ((![v173] : Fin 1 → IVec S16 32) a x).toNat < S16384.size a)
theorem k1_idx10_inb : ∀ (v173 : IVec S16 32) (k1_hw10 : k1_chk10 v173), ∀ a x, ((![v173] : Fin 1 → IVec S16 32) a x).toNat < S16384.size a := fun v173 k1_hw10 => k1_hw10
def k1_off11 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_88 : BitVec 32 := 8#32
  let v174 : BitVec 32 := Scalar.muli arg13 c8_i32_88
  let c5_i32 : BitVec 32 := 5#32
  let v175 : BitVec 32 := Scalar.addi v174 c5_i32
  let c16_i32_89 : BitVec 32 := 16#32
  let v176 : BitVec 32 := Scalar.muli v175 c16_i32_89
  let v177 : Index := Scalar.indexCast v176
  ![v177.toNat]

def k1_chk11 (v192 : IVec S16 32) : Prop :=
  (∀ a x, ((![v192] : Fin 1 → IVec S16 32) a x).toNat < S16384.size a)
theorem k1_idx11_inb : ∀ (v192 : IVec S16 32) (k1_hw11 : k1_chk11 v192), ∀ a x, ((![v192] : Fin 1 → IVec S16 32) a x).toNat < S16384.size a := fun v192 k1_hw11 => k1_hw11

def k1_chk12 (v196 : IVec S16 32) : Prop :=
  (∀ a x, ((![v196] : Fin 1 → IVec S16 32) a x).toNat < S16384.size a)
theorem k1_idx12_inb : ∀ (v196 : IVec S16 32) (k1_hw12 : k1_chk12 v196), ∀ a x, ((![v196] : Fin 1 → IVec S16 32) a x).toNat < S16384.size a := fun v196 k1_hw12 => k1_hw12
def k1_off12 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_95 : BitVec 32 := 8#32
  let v197 : BitVec 32 := Scalar.muli arg13 c8_i32_95
  let c6_i32 : BitVec 32 := 6#32
  let v198 : BitVec 32 := Scalar.addi v197 c6_i32
  let c16_i32_96 : BitVec 32 := 16#32
  let v199 : BitVec 32 := Scalar.muli v198 c16_i32_96
  let v200 : Index := Scalar.indexCast v199
  ![v200.toNat]

def k1_chk13 (v215 : IVec S16 32) : Prop :=
  (∀ a x, ((![v215] : Fin 1 → IVec S16 32) a x).toNat < S16384.size a)
theorem k1_idx13_inb : ∀ (v215 : IVec S16 32) (k1_hw13 : k1_chk13 v215), ∀ a x, ((![v215] : Fin 1 → IVec S16 32) a x).toNat < S16384.size a := fun v215 k1_hw13 => k1_hw13

def k1_chk14 (v219 : IVec S16 32) : Prop :=
  (∀ a x, ((![v219] : Fin 1 → IVec S16 32) a x).toNat < S16384.size a)
theorem k1_idx14_inb : ∀ (v219 : IVec S16 32) (k1_hw14 : k1_chk14 v219), ∀ a x, ((![v219] : Fin 1 → IVec S16 32) a x).toNat < S16384.size a := fun v219 k1_hw14 => k1_hw14
def k1_off13 (k1_t3 : Fin k1_t3_loop.trips) : Fin 1 → Nat :=
  let c0_i32_31 : BitVec 32 := 0#32
  let c1_i32_32 : BitVec 32 := 1#32
  let arg13 : BitVec 32 := Scf.iv c0_i32_31 c1_i32_32 k1_t3
  let c8_i32_102 : BitVec 32 := 8#32
  let v220 : BitVec 32 := Scalar.muli arg13 c8_i32_102
  let c7_i32 : BitVec 32 := 7#32
  let v221 : BitVec 32 := Scalar.addi v220 c7_i32
  let c16_i32_103 : BitVec 32 := 16#32
  let v222 : BitVec 32 := Scalar.muli v221 c16_i32_103
  let v223 : Index := Scalar.indexCast v222
  ![v223.toNat]

def k1_chk15 (v238 : IVec S16 32) : Prop :=
  (∀ a x, ((![v238] : Fin 1 → IVec S16 32) a x).toNat < S16384.size a)
theorem k1_idx15_inb : ∀ (v238 : IVec S16 32) (k1_hw15 : k1_chk15 v238), ∀ a x, ((![v238] : Fin 1 → IVec S16 32) a x).toNat < S16384.size a := fun v238 k1_hw15 => k1_hw15

def k1_chk16 (v242 : IVec S16 32) : Prop :=
  (∀ a x, ((![v242] : Fin 1 → IVec S16 32) a x).toNat < S16384.size a)
theorem k1_idx16_inb : ∀ (v242 : IVec S16 32) (k1_hw16 : k1_chk16 v242), ∀ a x, ((![v242] : Fin 1 → IVec S16 32) a x).toNat < S16384.size a := fun v242 k1_hw16 => k1_hw16
def k1_cond5 (k1_t2 : Fin k1_t2_loop.trips) : BitVec 1 :=
  let c0_i32_14 : BitVec 32 := 0#32
  let c1_i32_16 : BitVec 32 := 1#32
  let arg12 : BitVec 32 := Scf.iv c0_i32_14 c1_i32_16 k1_t2
  let c2_i32_34 : BitVec 32 := 2#32
  let v41 : BitVec 32 := Scalar.muli arg12 c2_i32_34
  let c1_i32_35 : BitVec 32 := 1#32
  let v42 : BitVec 32 := Scalar.addi v41 c1_i32_35
  let c1_i32_36 : BitVec 32 := 1#32
  let v43 : BitVec 32 := Scalar.addi v42 c1_i32_36
  let c16_i32_37 : BitVec 32 := 16#32
  let v44 : BitVec 1 := Scalar.cmpi .slt v43 c16_i32_37
  let v45 : BitVec 32 := Scalar.extui v44
  let c0_i32_38 : BitVec 32 := 0#32
  let v46 : BitVec 1 := Scalar.cmpi .ne v45 c0_i32_38
  v46

def k1_off14 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_14 : BitVec 32 := 0#32
  let c1_i32_16 : BitVec 32 := 1#32
  let arg12 : BitVec 32 := Scf.iv c0_i32_14 c1_i32_16 k1_t2
  let c2_i32_34 : BitVec 32 := 2#32
  let v41 : BitVec 32 := Scalar.muli arg12 c2_i32_34
  let c1_i32_35 : BitVec 32 := 1#32
  let v42 : BitVec 32 := Scalar.addi v41 c1_i32_35
  let c1_i32_36 : BitVec 32 := 1#32
  let v43 : BitVec 32 := Scalar.addi v42 c1_i32_36
  let c32768_i32 : BitVec 32 := 32768#32
  let v59 : BitVec 32 := Scalar.muli v43 c32768_i32
  let v60 : BitVec 32 := Scalar.addi v2 v59
  ![v60.toNat]
def k1_cond6 (k1_t2 : Fin k1_t2_loop.trips) : BitVec 1 :=
  let c0_i32_14 : BitVec 32 := 0#32
  let c1_i32_16 : BitVec 32 := 1#32
  let arg12 : BitVec 32 := Scf.iv c0_i32_14 c1_i32_16 k1_t2
  let c2_i32_34 : BitVec 32 := 2#32
  let v41 : BitVec 32 := Scalar.muli arg12 c2_i32_34
  let c1_i32_35 : BitVec 32 := 1#32
  let v42 : BitVec 32 := Scalar.addi v41 c1_i32_35
  let c1_i32_36 : BitVec 32 := 1#32
  let v43 : BitVec 32 := Scalar.addi v42 c1_i32_36
  let c16_i32_39 : BitVec 32 := 16#32
  let v47 : BitVec 1 := Scalar.cmpi .sge v43 c16_i32_39
  let c32_i32_40 : BitVec 32 := 32#32
  let v48 : BitVec 1 := Scalar.cmpi .slt v43 c32_i32_40
  let v49 : BitVec 1 := Scalar.andi v47 v48
  let v50 : BitVec 32 := Scalar.extui v49
  let c0_i32_41 : BitVec 32 := 0#32
  let v51 : BitVec 1 := Scalar.cmpi .ne v50 c0_i32_41
  v51

def k1_off15 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_14 : BitVec 32 := 0#32
  let c1_i32_16 : BitVec 32 := 1#32
  let arg12 : BitVec 32 := Scf.iv c0_i32_14 c1_i32_16 k1_t2
  let c2_i32_34 : BitVec 32 := 2#32
  let v41 : BitVec 32 := Scalar.muli arg12 c2_i32_34
  let c1_i32_35 : BitVec 32 := 1#32
  let v42 : BitVec 32 := Scalar.addi v41 c1_i32_35
  let c1_i32_36 : BitVec 32 := 1#32
  let v43 : BitVec 32 := Scalar.addi v42 c1_i32_36
  let c16_i32_52 : BitVec 32 := 16#32
  let v59 : BitVec 32 := Scalar.subi v43 c16_i32_52
  let c32768_i32 : BitVec 32 := 32768#32
  let v60 : BitVec 32 := Scalar.muli v59 c32768_i32
  let v61 : BitVec 32 := Scalar.addi v2 v60
  ![v61.toNat]
@[reducible] def k1_t4_loop : Scf.Loop 32 :=
  let c0_i32_48 : BitVec 32 := 0#32
  let c256_i32_49 : BitVec 32 := 256#32
  let v58 : BitVec 32 := Scalar.addi c0_i32_48 c256_i32_49
  let c1_i32_50 : BitVec 32 := 1#32
  ⟨c0_i32_48, v58, c1_i32_50⟩
def k1_off16 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32 : BitVec 32 := 8#32
  let v59 : BitVec 32 := Scalar.muli arg13 c8_i32
  let c0_i32_52 : BitVec 32 := 0#32
  let v60 : BitVec 32 := Scalar.addi v59 c0_i32_52
  let c16_i32_53 : BitVec 32 := 16#32
  let v61 : BitVec 32 := Scalar.muli v60 c16_i32_53
  let v62 : Index := Scalar.indexCast v61
  ![v62.toNat]

def k1_chk17 (v77 : IVec S16 32) : Prop :=
  (∀ a x, ((![v77] : Fin 1 → IVec S16 32) a x).toNat < S16384.size a)
theorem k1_idx17_inb : ∀ (v77 : IVec S16 32) (k1_hw17 : k1_chk17 v77), ∀ a x, ((![v77] : Fin 1 → IVec S16 32) a x).toNat < S16384.size a := fun v77 k1_hw17 => k1_hw17

def k1_chk18 (v81 : IVec S16 32) : Prop :=
  (∀ a x, ((![v81] : Fin 1 → IVec S16 32) a x).toNat < S16384.size a)
theorem k1_idx18_inb : ∀ (v81 : IVec S16 32) (k1_hw18 : k1_chk18 v81), ∀ a x, ((![v81] : Fin 1 → IVec S16 32) a x).toNat < S16384.size a := fun v81 k1_hw18 => k1_hw18
def k1_off17 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_58 : BitVec 32 := 8#32
  let v82 : BitVec 32 := Scalar.muli arg13 c8_i32_58
  let c1_i32_59 : BitVec 32 := 1#32
  let v83 : BitVec 32 := Scalar.addi v82 c1_i32_59
  let c16_i32_60 : BitVec 32 := 16#32
  let v84 : BitVec 32 := Scalar.muli v83 c16_i32_60
  let v85 : Index := Scalar.indexCast v84
  ![v85.toNat]

def k1_chk19 (v100 : IVec S16 32) : Prop :=
  (∀ a x, ((![v100] : Fin 1 → IVec S16 32) a x).toNat < S16384.size a)
theorem k1_idx19_inb : ∀ (v100 : IVec S16 32) (k1_hw19 : k1_chk19 v100), ∀ a x, ((![v100] : Fin 1 → IVec S16 32) a x).toNat < S16384.size a := fun v100 k1_hw19 => k1_hw19

def k1_chk20 (v104 : IVec S16 32) : Prop :=
  (∀ a x, ((![v104] : Fin 1 → IVec S16 32) a x).toNat < S16384.size a)
theorem k1_idx20_inb : ∀ (v104 : IVec S16 32) (k1_hw20 : k1_chk20 v104), ∀ a x, ((![v104] : Fin 1 → IVec S16 32) a x).toNat < S16384.size a := fun v104 k1_hw20 => k1_hw20
def k1_off18 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_66 : BitVec 32 := 8#32
  let v105 : BitVec 32 := Scalar.muli arg13 c8_i32_66
  let c2_i32_67 : BitVec 32 := 2#32
  let v106 : BitVec 32 := Scalar.addi v105 c2_i32_67
  let c16_i32_68 : BitVec 32 := 16#32
  let v107 : BitVec 32 := Scalar.muli v106 c16_i32_68
  let v108 : Index := Scalar.indexCast v107
  ![v108.toNat]

def k1_chk21 (v123 : IVec S16 32) : Prop :=
  (∀ a x, ((![v123] : Fin 1 → IVec S16 32) a x).toNat < S16384.size a)
theorem k1_idx21_inb : ∀ (v123 : IVec S16 32) (k1_hw21 : k1_chk21 v123), ∀ a x, ((![v123] : Fin 1 → IVec S16 32) a x).toNat < S16384.size a := fun v123 k1_hw21 => k1_hw21

def k1_chk22 (v127 : IVec S16 32) : Prop :=
  (∀ a x, ((![v127] : Fin 1 → IVec S16 32) a x).toNat < S16384.size a)
theorem k1_idx22_inb : ∀ (v127 : IVec S16 32) (k1_hw22 : k1_chk22 v127), ∀ a x, ((![v127] : Fin 1 → IVec S16 32) a x).toNat < S16384.size a := fun v127 k1_hw22 => k1_hw22
def k1_off19 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_74 : BitVec 32 := 8#32
  let v128 : BitVec 32 := Scalar.muli arg13 c8_i32_74
  let c3_i32 : BitVec 32 := 3#32
  let v129 : BitVec 32 := Scalar.addi v128 c3_i32
  let c16_i32_75 : BitVec 32 := 16#32
  let v130 : BitVec 32 := Scalar.muli v129 c16_i32_75
  let v131 : Index := Scalar.indexCast v130
  ![v131.toNat]

def k1_chk23 (v146 : IVec S16 32) : Prop :=
  (∀ a x, ((![v146] : Fin 1 → IVec S16 32) a x).toNat < S16384.size a)
theorem k1_idx23_inb : ∀ (v146 : IVec S16 32) (k1_hw23 : k1_chk23 v146), ∀ a x, ((![v146] : Fin 1 → IVec S16 32) a x).toNat < S16384.size a := fun v146 k1_hw23 => k1_hw23

def k1_chk24 (v150 : IVec S16 32) : Prop :=
  (∀ a x, ((![v150] : Fin 1 → IVec S16 32) a x).toNat < S16384.size a)
theorem k1_idx24_inb : ∀ (v150 : IVec S16 32) (k1_hw24 : k1_chk24 v150), ∀ a x, ((![v150] : Fin 1 → IVec S16 32) a x).toNat < S16384.size a := fun v150 k1_hw24 => k1_hw24
def k1_off20 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_81 : BitVec 32 := 8#32
  let v151 : BitVec 32 := Scalar.muli arg13 c8_i32_81
  let c4_i32 : BitVec 32 := 4#32
  let v152 : BitVec 32 := Scalar.addi v151 c4_i32
  let c16_i32_82 : BitVec 32 := 16#32
  let v153 : BitVec 32 := Scalar.muli v152 c16_i32_82
  let v154 : Index := Scalar.indexCast v153
  ![v154.toNat]

def k1_chk25 (v169 : IVec S16 32) : Prop :=
  (∀ a x, ((![v169] : Fin 1 → IVec S16 32) a x).toNat < S16384.size a)
theorem k1_idx25_inb : ∀ (v169 : IVec S16 32) (k1_hw25 : k1_chk25 v169), ∀ a x, ((![v169] : Fin 1 → IVec S16 32) a x).toNat < S16384.size a := fun v169 k1_hw25 => k1_hw25

def k1_chk26 (v173 : IVec S16 32) : Prop :=
  (∀ a x, ((![v173] : Fin 1 → IVec S16 32) a x).toNat < S16384.size a)
theorem k1_idx26_inb : ∀ (v173 : IVec S16 32) (k1_hw26 : k1_chk26 v173), ∀ a x, ((![v173] : Fin 1 → IVec S16 32) a x).toNat < S16384.size a := fun v173 k1_hw26 => k1_hw26
def k1_off21 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_88 : BitVec 32 := 8#32
  let v174 : BitVec 32 := Scalar.muli arg13 c8_i32_88
  let c5_i32 : BitVec 32 := 5#32
  let v175 : BitVec 32 := Scalar.addi v174 c5_i32
  let c16_i32_89 : BitVec 32 := 16#32
  let v176 : BitVec 32 := Scalar.muli v175 c16_i32_89
  let v177 : Index := Scalar.indexCast v176
  ![v177.toNat]

def k1_chk27 (v192 : IVec S16 32) : Prop :=
  (∀ a x, ((![v192] : Fin 1 → IVec S16 32) a x).toNat < S16384.size a)
theorem k1_idx27_inb : ∀ (v192 : IVec S16 32) (k1_hw27 : k1_chk27 v192), ∀ a x, ((![v192] : Fin 1 → IVec S16 32) a x).toNat < S16384.size a := fun v192 k1_hw27 => k1_hw27

def k1_chk28 (v196 : IVec S16 32) : Prop :=
  (∀ a x, ((![v196] : Fin 1 → IVec S16 32) a x).toNat < S16384.size a)
theorem k1_idx28_inb : ∀ (v196 : IVec S16 32) (k1_hw28 : k1_chk28 v196), ∀ a x, ((![v196] : Fin 1 → IVec S16 32) a x).toNat < S16384.size a := fun v196 k1_hw28 => k1_hw28
def k1_off22 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_95 : BitVec 32 := 8#32
  let v197 : BitVec 32 := Scalar.muli arg13 c8_i32_95
  let c6_i32 : BitVec 32 := 6#32
  let v198 : BitVec 32 := Scalar.addi v197 c6_i32
  let c16_i32_96 : BitVec 32 := 16#32
  let v199 : BitVec 32 := Scalar.muli v198 c16_i32_96
  let v200 : Index := Scalar.indexCast v199
  ![v200.toNat]

def k1_chk29 (v215 : IVec S16 32) : Prop :=
  (∀ a x, ((![v215] : Fin 1 → IVec S16 32) a x).toNat < S16384.size a)
theorem k1_idx29_inb : ∀ (v215 : IVec S16 32) (k1_hw29 : k1_chk29 v215), ∀ a x, ((![v215] : Fin 1 → IVec S16 32) a x).toNat < S16384.size a := fun v215 k1_hw29 => k1_hw29

def k1_chk30 (v219 : IVec S16 32) : Prop :=
  (∀ a x, ((![v219] : Fin 1 → IVec S16 32) a x).toNat < S16384.size a)
theorem k1_idx30_inb : ∀ (v219 : IVec S16 32) (k1_hw30 : k1_chk30 v219), ∀ a x, ((![v219] : Fin 1 → IVec S16 32) a x).toNat < S16384.size a := fun v219 k1_hw30 => k1_hw30
def k1_off23 (k1_t4 : Fin k1_t4_loop.trips) : Fin 1 → Nat :=
  let c0_i32_48 : BitVec 32 := 0#32
  let c1_i32_50 : BitVec 32 := 1#32
  let arg13 : BitVec 32 := Scf.iv c0_i32_48 c1_i32_50 k1_t4
  let c8_i32_102 : BitVec 32 := 8#32
  let v220 : BitVec 32 := Scalar.muli arg13 c8_i32_102
  let c7_i32 : BitVec 32 := 7#32
  let v221 : BitVec 32 := Scalar.addi v220 c7_i32
  let c16_i32_103 : BitVec 32 := 16#32
  let v222 : BitVec 32 := Scalar.muli v221 c16_i32_103
  let v223 : Index := Scalar.indexCast v222
  ![v223.toNat]

def k1_chk31 (v238 : IVec S16 32) : Prop :=
  (∀ a x, ((![v238] : Fin 1 → IVec S16 32) a x).toNat < S16384.size a)
theorem k1_idx31_inb : ∀ (v238 : IVec S16 32) (k1_hw31 : k1_chk31 v238), ∀ a x, ((![v238] : Fin 1 → IVec S16 32) a x).toNat < S16384.size a := fun v238 k1_hw31 => k1_hw31

def k1_chk32 (v242 : IVec S16 32) : Prop :=
  (∀ a x, ((![v242] : Fin 1 → IVec S16 32) a x).toNat < S16384.size a)
theorem k1_idx32_inb : ∀ (v242 : IVec S16 32) (k1_hw32 : k1_chk32 v242), ∀ a x, ((![v242] : Fin 1 → IVec S16 32) a x).toNat < S16384.size a := fun v242 k1_hw32 => k1_hw32
def k1_off24 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v22 : BitVec 32 := Scalar.muli v1 c16384_i32
  ![v22.toNat]
abbrev grid2 : Pipeline.Grid := .none

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4096 : Shape := ⟨2, ![4096, 4096]⟩
abbrev S_ : Shape := ⟨0, ![]⟩
abbrev S16777216 : Shape := ⟨1, ![16777216]⟩
abbrev S257 : Shape := ⟨1, ![257]⟩
abbrev S16777216x1 : Shape := ⟨2, ![16777216, 1]⟩
abbrev S256 : Shape := ⟨1, ![256]⟩

abbrev nBuf : Space → Nat
  | .hbm => 157
  | .vmem => 0
  | .smem => 0
  | _ => 0

abbrev hbmTy0_0 (i : Nat) : BufTy := match i % 128 with
  | 0 => ⟨S4096x4096, .f32⟩
  | 1 => ⟨S4096x4096, .f32⟩
  | 2 => ⟨S_, .f32⟩
  | 3 => ⟨S_, .f32⟩
  | 4 => ⟨S16777216, .f32⟩
  | 5 => ⟨S_, .f32⟩
  | 6 => ⟨S_, .f32⟩
  | 7 => ⟨S_, .f32⟩
  | 8 => ⟨S_, .f32⟩
  | 9 => ⟨S16777216, .f32⟩
  | 10 => ⟨S16777216, .i1⟩
  | 11 => ⟨S_, .f32⟩
  | 12 => ⟨S16777216, .f32⟩
  | 13 => ⟨S16777216, .i1⟩
  | 14 => ⟨S16777216, .i1⟩
  | 15 => ⟨S16777216, .f32⟩
  | 16 => ⟨S16777216, .f32⟩
  | 17 => ⟨S16777216, .f32⟩
  | 18 => ⟨S16777216, .f32⟩
  | 19 => ⟨S16777216, .f32⟩
  | 20 => ⟨S16777216, .f32⟩
  | 21 => ⟨S16777216, .f32⟩
  | 22 => ⟨S16777216, .f32⟩
  | 23 => ⟨S_, .f32⟩
  | 24 => ⟨S_, .f32⟩
  | 25 => ⟨S16777216, .f32⟩
  | 26 => ⟨S16777216, .f32⟩
  | 27 => ⟨S16777216, .i32⟩
  | 28 => ⟨S_, .f32⟩
  | 29 => ⟨S16777216, .f32⟩
  | 30 => ⟨S16777216, .f32⟩
  | 31 => ⟨S_, .f32⟩
  | 32 => ⟨S_, .f32⟩
  | 33 => ⟨S16777216, .f32⟩
  | 34 => ⟨S16777216, .f32⟩
  | 35 => ⟨S_, .f32⟩
  | 36 => ⟨S_, .f32⟩
  | 37 => ⟨S16777216, .f32⟩
  | 38 => ⟨S16777216, .f32⟩
  | 39 => ⟨S_, .f32⟩
  | 40 => ⟨S257, .f32⟩
  | 41 => ⟨S_, .i32⟩
  | 42 => ⟨S16777216, .i32⟩
  | 43 => ⟨S16777216, .i1⟩
  | 44 => ⟨S_, .i32⟩
  | 45 => ⟨S16777216, .i32⟩
  | 46 => ⟨S16777216, .i32⟩
  | 47 => ⟨S16777216, .i32⟩
  | 48 => ⟨S16777216x1, .i32⟩
  | 49 => ⟨S257, .f32⟩
  | 50 => ⟨S_, .i32⟩
  | 51 => ⟨S16777216, .i32⟩
  | 52 => ⟨S16777216, .i32⟩
  | 53 => ⟨S_, .i32⟩
  | 54 => ⟨S16777216, .i32⟩
  | 55 => ⟨S16777216, .i1⟩
  | 56 => ⟨S_, .i32⟩
  | 57 => ⟨S16777216, .i32⟩
  | 58 => ⟨S16777216, .i32⟩
  | 59 => ⟨S16777216, .i32⟩
  | 60 => ⟨S16777216x1, .i32⟩
  | 61 => ⟨S257, .f32⟩
  | 62 => ⟨S256, .f32⟩
  | 63 => ⟨S16777216, .f32⟩
  | 64 => ⟨S_, .f32⟩
  | 65 => ⟨S_, .f32⟩
  | 66 => ⟨S_, .f32⟩
  | 67 => ⟨S_, .f32⟩
  | 68 => ⟨S16777216, .f32⟩
  | 69 => ⟨S16777216, .i1⟩
  | 70 => ⟨S_, .f32⟩
  | 71 => ⟨S16777216, .f32⟩
  | 72 => ⟨S16777216, .i1⟩
  | 73 => ⟨S16777216, .i1⟩
  | 74 => ⟨S16777216, .f32⟩
  | 75 => ⟨S16777216, .f32⟩
  | 76 => ⟨S16777216, .f32⟩
  | 77 => ⟨S16777216, .f32⟩
  | 78 => ⟨S16777216, .f32⟩
  | 79 => ⟨S16777216, .f32⟩
  | 80 => ⟨S16777216, .f32⟩
  | 81 => ⟨S16777216, .f32⟩
  | 82 => ⟨S_, .f32⟩
  | 83 => ⟨S_, .f32⟩
  | 84 => ⟨S16777216, .f32⟩
  | 85 => ⟨S16777216, .f32⟩
  | 86 => ⟨S16777216, .i32⟩
  | 87 => ⟨S_, .f32⟩
  | 88 => ⟨S16777216, .f32⟩
  | 89 => ⟨S16777216, .f32⟩
  | 90 => ⟨S_, .f32⟩
  | 91 => ⟨S_, .f32⟩
  | 92 => ⟨S16777216, .f32⟩
  | 93 => ⟨S16777216, .f32⟩
  | 94 => ⟨S_, .f32⟩
  | 95 => ⟨S_, .f32⟩
  | 96 => ⟨S16777216, .f32⟩
  | 97 => ⟨S16777216, .f32⟩
  | 98 => ⟨S_, .f32⟩
  | 99 => ⟨S257, .f32⟩
  | 100 => ⟨S_, .i32⟩
  | 101 => ⟨S16777216, .i32⟩
  | 102 => ⟨S16777216, .i1⟩
  | 103 => ⟨S_, .i32⟩
  | 104 => ⟨S16777216, .i32⟩
  | 105 => ⟨S16777216, .i32⟩
  | 106 => ⟨S16777216, .i32⟩
  | 107 => ⟨S16777216x1, .i32⟩
  | 108 => ⟨S257, .f32⟩
  | 109 => ⟨S_, .i32⟩
  | 110 => ⟨S16777216, .i32⟩
  | 111 => ⟨S16777216, .i32⟩
  | 112 => ⟨S_, .i32⟩
  | 113 => ⟨S16777216, .i32⟩
  | 114 => ⟨S16777216, .i1⟩
  | 115 => ⟨S_, .i32⟩
  | 116 => ⟨S16777216, .i32⟩
  | 117 => ⟨S16777216, .i32⟩
  | 118 => ⟨S16777216, .i32⟩
  | 119 => ⟨S16777216x1, .i32⟩
  | 120 => ⟨S257, .f32⟩
  | 121 => ⟨S256, .f32⟩
  | 122 => ⟨S_, .f32⟩
  | 123 => ⟨S256, .f32⟩
  | 124 => ⟨S256, .f32⟩
  | 125 => ⟨S_, .f32⟩
  | 126 => ⟨S_, .f32⟩
  | 127 => ⟨S_, .f32⟩
  | _ => ⟨S4096x4096, .f32⟩

abbrev hbmTy0_1 (i : Nat) : BufTy := match i % 128 with
  | 0 => ⟨S_, .f32⟩
  | 1 => ⟨S256, .f32⟩
  | 2 => ⟨S256, .f32⟩
  | 3 => ⟨S_, .f32⟩
  | 4 => ⟨S256, .f32⟩
  | 5 => ⟨S256, .f32⟩
  | 6 => ⟨S_, .f32⟩
  | 7 => ⟨S_, .f32⟩
  | 8 => ⟨S_, .f32⟩
  | 9 => ⟨S_, .f32⟩
  | 10 => ⟨S256, .f32⟩
  | 11 => ⟨S256, .f32⟩
  | 12 => ⟨S_, .f32⟩
  | 13 => ⟨S256, .f32⟩
  | 14 => ⟨S256, .f32⟩
  | 15 => ⟨S256, .f32⟩
  | 16 => ⟨S256, .f32⟩
  | 17 => ⟨S_, .f32⟩
  | 18 => ⟨S256, .f32⟩
  | 19 => ⟨S256, .f32⟩
  | 20 => ⟨S256, .f32⟩
  | 21 => ⟨S256, .f32⟩
  | 22 => ⟨S256, .f32⟩
  | 23 => ⟨S256, .f32⟩
  | 24 => ⟨S256, .f32⟩
  | 25 => ⟨S_, .f32⟩
  | 26 => ⟨S_, .f32⟩
  | 27 => ⟨S_, .f32⟩
  | 28 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_v33 : Ref sig .tc := ⟨.hbm, 54, rfl⟩
abbrev main_v34 : Ref sig .tc := ⟨.hbm, 55, rfl⟩
abbrev main_c_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_call4_v0 : Ref sig .tc := ⟨.hbm, 91, rfl⟩
abbrev main_call4_v1 : Ref sig .tc := ⟨.hbm, 92, rfl⟩
abbrev main_v61 : Ref sig .tc := ⟨.hbm, 93, rfl⟩
abbrev main_cst_18 : Ref sig .tc := ⟨.hbm, 94, rfl⟩
abbrev main_call5_v0 : Ref sig .tc := ⟨.hbm, 95, rfl⟩
abbrev main_call5_v1 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_c_20 : Ref sig .tc := ⟨.hbm, 100, rfl⟩
abbrev main_v64 : Ref sig .tc := ⟨.hbm, 101, rfl⟩
abbrev main_v65 : Ref sig .tc := ⟨.hbm, 102, rfl⟩
abbrev main_c_21 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_22 : Ref sig .tc := ⟨.hbm, 109, rfl⟩
abbrev main_v71 : Ref sig .tc := ⟨.hbm, 110, rfl⟩
abbrev main_v72 : Ref sig .tc := ⟨.hbm, 111, rfl⟩
abbrev main_c_23 : Ref sig .tc := ⟨.hbm, 112, rfl⟩
abbrev main_v73 : Ref sig .tc := ⟨.hbm, 113, rfl⟩
abbrev main_v74 : Ref sig .tc := ⟨.hbm, 114, rfl⟩
abbrev main_c_24 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_25 : Ref sig .tc := ⟨.hbm, 122, rfl⟩
abbrev main_v81 : Ref sig .tc := ⟨.hbm, 123, rfl⟩
abbrev main_v82 : Ref sig .tc := ⟨.hbm, 124, rfl⟩
abbrev main_cst_26 : Ref sig .tc := ⟨.hbm, 125, rfl⟩
abbrev main_v83 : Ref sig .tc := ⟨.hbm, 126, rfl⟩
abbrev main_cst_27 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_28 : Ref sig .tc := ⟨.hbm, 131, rfl⟩
abbrev main_v87 : Ref sig .tc := ⟨.hbm, 132, rfl⟩
abbrev main_v88 : Ref sig .tc := ⟨.hbm, 133, rfl⟩
abbrev main_cst_29 : Ref sig .tc := ⟨.hbm, 134, rfl⟩
abbrev main_v89 : Ref sig .tc := ⟨.hbm, 135, rfl⟩
abbrev main_cst_30 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_31 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_32 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_33 : Ref sig .tc := ⟨.hbm, 153, rfl⟩
abbrev main_v104 : Ref sig .tc := ⟨.hbm, 154, rfl⟩
abbrev main_cst_34 : Ref sig .tc := ⟨.hbm, 155, rfl⟩
abbrev main_v105 : Ref sig .tc := ⟨.hbm, 156, rfl⟩

abbrev nD : Nat := 1
abbrev τ : Topo := Topo.v7x

variable {F : FTy → Type} [FloatOps F]
-- ==== Proof.KernelIdeal.Base.lean ====
/- The set-up of the launch: the program as the launch theorem of the SparseCore reads it, its facts about the
   handshakes' semaphores, and the resource algebra — the handshakes' rounds, the rounds of the two TensorCore
   regions, and the counters of the tiles' transfers. -/
module

public import Idealize.ShloMosaic.Lib.SparseCore.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.SL Idealize.SL.RA Idealize.SL.BI
open Idealize.SL.BI.BIBase Idealize.SL.Sem
open Idealize.ShloMosaic.Rounds
open Idealize.ShloMosaic.SparseCore.Cfg (HIx)

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The handshakes' semaphores are distinct and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore regions' rounds. -/
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

end Cert.Proof.KernelIdeal

end
-- ==== Proof.KernelIdeal.Vec.lean ====
/- One vector of sixteen elements added to a tile's histogram: its value, the statements that do it, and the two
   inner loops' bodies as eight of them. -/
module

public import proofs.«01_k».proof.Proof.KernelIdeal.Base

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type}

/-- The index at position `k` (taken modulo the length) of a one-dimensional array. -/
def ix (n : ℕ) (hn : 0 < n) (k : ℕ) : (⟨1, ![n]⟩ : Shape).Idx :=
  fun | 0 => ⟨k % n, Nat.mod_lt _ hn⟩

/-! ## Words -/

theorem toNat_clip (t : BitVec 32) : (IntOp.minsi 255#32 (IntOp.maxsi 0#32 t)).toNat ≤ 255 := by
  unfold IntOp.minsi IntOp.maxsi
  by_cases h : t.slt 0#32 = true
  · rw [if_pos h]; decide
  · rw [if_neg h]
    by_cases h' : (255#32 : BitVec 32).slt t = true
    · rw [if_pos h']; decide
    · rw [if_neg h']
      rw [Bool.not_eq_true, BitVec.slt, decide_eq_false_iff_not] at h h'
      have h0 : (0#32 : BitVec 32).toInt = 0 := by decide
      have e : (255#32 : BitVec 32).toInt = 255 := by decide
      rw [h0] at h; rw [e] at h'
      have := BitVec.toInt_eq_toNat_cond t
      split at this <;> omega

theorem toNat_lane (l : S16.Idx) : (k1_pay110 l).toNat = 1024 * (l 0).val := by
  have hl : (l 0).val < 16 := (l 0).isLt
  show (BitVec.ofNat 32 (0 * 16 + (l 0).val) * 1024#32).toNat = _
  rw [BitVec.toNat_mul, BitVec.toNat_ofNat, BitVec.toNat_ofNat]
  omega

/-- The column block of an image's histogram: the first image's from column 0, the second's from column 512. -/
def hoff (c : ℕ) : ℕ := if c < 16 then 0 else 512

theorem toNat_sel (v : BitVec 32) : (Scalar.select (Scalar.cmpi .slt v 16#32) 0#32 512#32 : BitVec 32).toNat ≤ 512 := by
  unfold Scalar.select; split <;> decide

theorem toNat_idx_of (a s t : BitVec 32) (k : ℕ) (ha : a.toNat = 1024 * k) (hk : k < 16) (hs : s.toNat ≤ 512) :
    (IntOp.addi (IntOp.addi a s) (IntOp.minsi 255#32 (IntOp.maxsi 0#32 t))).toNat
      = 1024 * k + s.toNat + (IntOp.minsi 255#32 (IntOp.maxsi 0#32 t)).toNat := by
  have := toNat_clip t
  unfold IntOp.addi
  rw [BitVec.toNat_add, BitVec.toNat_add]
  omega

theorem toNat_succ (a : BitVec 32) (h : a.toNat < 16384) : (IntOp.addi a 1#32).toNat = a.toNat + 1 := by
  unfold IntOp.addi
  rw [BitVec.toNat_add, show (1#32 : BitVec 32).toNat = 1 from rfl]
  omega

section Vector

variable [FloatOps F]

/-- The first bin's position in the tile's histogram, lane by lane. -/
abbrev binOf (v5 : Vec F S16 .f32) (v42 : BitVec 32) (x : Vec F S16 .f32) : IVec S16 32 := k1_pay117 v5 v42 x

theorem toNat_bin (v5 : Vec F S16 .f32) (v42 : BitVec 32) (x : Vec F S16 .f32) (l : S16.Idx) :
    (binOf v5 v42 x l).toNat = 1024 * (l 0).val + (Scalar.select (Scalar.cmpi .slt v42 16#32) 0#32 512#32 : BitVec 32).toNat
      + (IntOp.minsi 255#32 (IntOp.maxsi 0#32 (k1_pay114 v5 x l))).toNat :=
  toNat_idx_of (k1_pay110 l) _ (k1_pay114 v5 x l) (l 0).val (toNat_lane l) (l 0).isLt (toNat_sel v42)

theorem bin_lt (v5 : Vec F S16 .f32) (v42 : BitVec 32) (x : Vec F S16 .f32) (l : S16.Idx) : (binOf v5 v42 x l).toNat < 16383 := by
  have h1 := toNat_bin v5 v42 x l
  have h2 := toNat_clip (k1_pay114 v5 x l)
  have h3 := toNat_sel v42
  have h4 : (l 0).val < 16 := (l 0).isLt
  omega

/-- Both bins lie inside the histogram. -/
theorem chk_bin (v5 : Vec F S16 .f32) (v42 : BitVec 32) (x : Vec F S16 .f32) : k1_chk1 (binOf v5 v42 x) := by
  intro a l
  match a with
  | 0 => exact Nat.lt_trans (bin_lt v5 v42 x l) (by decide)

theorem chk_next (v5 : Vec F S16 .f32) (v42 : BitVec 32) (x : Vec F S16 .f32) : k1_chk1 (k1_pay119 (binOf v5 v42 x)) := by
  intro a l
  match a with
  | 0 =>
    have := bin_lt v5 v42 x l
    show (IntOp.addi (binOf v5 v42 x l) 1#32).toNat < 16384
    rw [toNat_succ _ (by omega)]; omega

/-- The histogram after the vector `x`: its first bins take one minus the fraction, the next bins the fraction, where
    the element is kept. -/
def step (v5 : Vec F S16 .f32) (v42 : BitVec 32) (x : Vec F S16 .f32) (h : Vec F S16384 .f32) : Vec F S16384 .f32 :=
  storeIdx (storeIdx h ![binOf v5 v42 x] (k1_pay118 v5 x) (k1_pay116 v5 x) true (chk_bin v5 v42 x))
    ![k1_pay119 (binOf v5 v42 x)] (k1_pay115 v5 x) (k1_pay116 v5 x) true (chk_next v5 v42 x)

/-- Vector `n` of a chunk. -/
def vecAt (B : Vec F S32768 .f32) (n : ℕ) : Vec F S16 .f32 := fun l => B (ix 32768 (by decide) (16 * n + (l 0).val))

/-- The histogram after the first `n` vectors of a chunk. -/
def chunkHist (v5 : Vec F S16 .f32) (v42 : BitVec 32) (B : Vec F S32768 .f32) (h : Vec F S16384 .f32) : ℕ → Vec F S16384 .f32
  | 0 => h
  | n + 1 => step v5 v42 (vecAt B n) (chunkHist v5 v42 B h n)

/-- The statements for one vector: the load at offset `off`, the two checked indexed adds. -/
def vecProg {c : Fin τ.nSC} {s : Fin τ.nSub} (h7 : Memref sig .scVector .vmem S16384 .f32) (b : Memref sig .scVector .vmem S32768 .f32)
    (v5 : Vec F S16 .f32) (v42 : BitVec 32) (off : Fin 1 → ℕ) (hoff : ∀ a, off a + S16.size a ≤ S32768.size a) :
    Prog (TpuEff nD τ sig (Elt F) Λ₀ (.scVector c s)) Unit :=
  .op (.load b (Rect.unit (s := S32768) off S16.size hoff).toLoadRect (View.loadsAt_vmem h_S16)) fun (x : Vec F S16 .f32) =>
  .op (.assume (k1_chk1 (binOf v5 v42 x)) (k1_chk1.dec _)) fun hw1 =>
  SparseCore.vectorStoreIdx h7 ![binOf v5 v42 x] (k1_pay118 v5 x) (k1_pay116 v5 x) true (k1_idx1_inb _ hw1.down) (View.stores_vmem_bits_univ h_S16384 rfl) >>= fun _ =>
  .op (.assume (k1_chk1 (k1_pay119 (binOf v5 v42 x))) (k1_chk1.dec _)) fun hw2 =>
  SparseCore.vectorStoreIdx h7 ![k1_pay119 (binOf v5 v42 x)] (k1_pay115 v5 x) (k1_pay116 v5 x) true (k1_idx1_inb _ hw2.down) (View.stores_vmem_bits_univ h_S16384 rfl) >>= fun _ =>
  .ret ⟨⟩

/-! ## The tile's scratch, as the body table passes it -/

abbrev minW : Memref sig .scVector .vmem S16 .f32 := Memref.whole cc1_scratch0
abbrev histW : Memref sig .scVector .vmem S16384 .f32 := Memref.whole cc1_scratch1
abbrev buf0W : Memref sig .scVector .vmem S32768 .f32 := Memref.whole cc1_scratch2
abbrev buf1W : Memref sig .scVector .vmem S32768 .f32 := Memref.whole cc1_scratch3

/-- A load of sixteen elements at `off` out of a whole chunk buffer reads the chunk's vector there. -/
theorem read_buf0 (B : Vec F S32768 .f32) (off : Fin 1 → ℕ) (ho : ∀ a, off a + S16.size a ≤ S32768.size a) (n : ℕ) (h : off 0 = 16 * n) :
    ((buf0W).access (Rect.unit (s := S32768) off S16.size ho)).read (Elt F) B = vecAt B n := by
  funext l
  have hl : (l 0).val < 16 := (l 0).isLt
  have h0 : off 0 + 16 ≤ 32768 := ho 0
  show B _ = B _
  congr 1
  funext a
  match a with
  | 0 => exact Fin.ext (show off 0 + 1 * (l 0).val = (16 * n + (l 0).val) % 32768 by omega)

theorem read_buf1 (B : Vec F S32768 .f32) (off : Fin 1 → ℕ) (ho : ∀ a, off a + S16.size a ≤ S32768.size a) (n : ℕ) (h : off 0 = 16 * n) :
    ((buf1W).access (Rect.unit (s := S32768) off S16.size ho)).read (Elt F) B = vecAt B n := read_buf0 B off ho n h

theorem read_hist (h : Vec F S16384 .f32) : ((histW).access (.whole S16384)).read (Elt F) h = h := Memref.read_access_whole _ _ _

theorem write_hist (h w : Vec F S16384 .f32) : ((histW).access (.whole S16384)).write (Elt F) h w Finset.univ = w := by
  exact Memref.write_access_whole_univ _ _ _ _

/-- An indexed add into the tile's whole histogram. -/
theorem wp_histIdx {d : Dev nD} {c : Fin τ.nSC} {s : Fin τ.nSub} (h : Vec F S16384 .f32) (idxs : Fin S16384.rank → IVec S16 32)
    (v : Vec F S16 .f32) (mask : IVec S16 1) (p : ∀ a x, (idxs a x).toNat < S16384.size a)
    {hs : ((histW).access (.whole S16384)).Stores Finset.univ}
    {k : PUnit → Prog (TpuEff nD τ sig (Elt F) Λ₀ (.scVector c s)) PUnit} {Q : PUnit → sProp (MT nD τ sig (HIx 1) (Elt F) ℕ UU ℕ)} :
    ((histW).view.loc (SparseCore.V d c s) ↦{fullShare} h)
      ⊢ iprop((((histW).view.loc (SparseCore.V d c s) ↦{fullShare} storeIdx h idxs v mask true p)
          -∗ wp frame (wpE (defs₀ (F := F)) 𝒱₀ (SparseCore.V d c s) none) Set.univ (k ⟨⟩) Q)
        -∗ wp frame (wpE (defs₀ (F := F)) 𝒱₀ (SparseCore.V d c s) none) Set.univ
            (SparseCore.vectorStoreIdx histW idxs v mask true p hs >>= k) Q) := by
  have H := SparseCore.wp_vectorStoreIdx (defs := defs₀ (F := F)) (Ix := HIx 1) (Name := ℕ) (U := UU) (Lvl := ℕ) (Q := Q) 𝒱₀ (SparseCore.V d c s) none Set.univ
    (base := histW) (idxs := idxs) (v := v) (mask := mask) (add := true) (h := p) (hs := hs) (k := k) (f := h)
  have hset : ((histW).access (.whole S16384)).set = Finset.univ := Memref.set_access_whole _
  rw [hset, write_hist, read_hist] at H
  exact H

/-- The statements for one vector, run: the histogram goes one step on, the chunk buffer is unchanged. -/
theorem wp_vecProg {d : Dev nD} {c : Fin τ.nSC} {s : Fin τ.nSub} {b : Memref sig .scVector .vmem S32768 .f32}
    {B : Vec F S32768 .f32} {fB : Buf (Elt F) (b.view.loc (SparseCore.V d c s))}
    (hrd : ∀ (off : Fin 1 → ℕ) (ho : ∀ a, off a + S16.size a ≤ S32768.size a) (n : ℕ), off 0 = 16 * n →
      (b.access (Rect.unit (s := S32768) off S16.size ho)).read (Elt F) fB = vecAt B n)
    (v5 : Vec F S16 .f32) (v42 : BitVec 32) (off : Fin 1 → ℕ) (ho : ∀ a, off a + S16.size a ≤ S32768.size a) (n : ℕ) (hn : off 0 = 16 * n)
    (h : Vec F S16384 .f32) :
    iprop(((histW).view.loc (SparseCore.V d c s) ↦{fullShare} h) ∗ (b.view.loc (SparseCore.V d c s) ↦{fullShare} fB))
      ⊢ wp (M := MT nD τ sig (HIx 1) (Elt F) ℕ UU ℕ) frame (wpE (defs₀ (F := F)) 𝒱₀ (SparseCore.V d c s) none) Set.univ
          (vecProg histW b v5 v42 off ho) fun _ =>
          iprop(((histW).view.loc (SparseCore.V d c s) ↦{fullShare} step v5 v42 (vecAt B n) h) ∗ (b.view.loc (SparseCore.V d c s) ↦{fullShare} fB)) := by
  unfold vecProg
  iintro ⟨Hh, Hb⟩
  iapply (wp_load_rect (defs := defs₀ (F := F)) 𝒱₀ (SparseCore.V d c s) none Set.univ (r := Rect.unit (s := S32768) off S16.size ho) (m := b) (S := Finset.univ) (Finset.subset_univ _)) $$ Hb
  iintro Hb
  rw [hrd off ho n hn]
  rw [wp_assume_of _ _ _ _ (chk_bin v5 v42 (vecAt B n))]
  iapply (wp_histIdx h) $$ Hh
  iintro Hh
  rw [wp_assume_of _ _ _ _ (chk_next v5 v42 (vecAt B n))]
  iapply (wp_histIdx _) $$ Hh
  iintro Hh
  iapply (le_wp_ret _ _)
  isplitl [Hh]
  · iexact Hh
  · iexact Hb

/-- Eight vectors, as one trip of an inner loop runs them. -/
def vecProg8 {c : Fin τ.nSC} {s : Fin τ.nSub} (h7 : Memref sig .scVector .vmem S16384 .f32) (b : Memref sig .scVector .vmem S32768 .f32)
    (v5 : Vec F S16 .f32) (v42 : BitVec 32) (off : Fin 8 → Fin 1 → ℕ) (hoff : ∀ u a, off u a + S16.size a ≤ S32768.size a) :
    Prog (TpuEff nD τ sig (Elt F) Λ₀ (.scVector c s)) Unit := do
  vecProg h7 b v5 v42 (off 0) (hoff 0)
  vecProg h7 b v5 v42 (off 1) (hoff 1)
  vecProg h7 b v5 v42 (off 2) (hoff 2)
  vecProg h7 b v5 v42 (off 3) (hoff 3)
  vecProg h7 b v5 v42 (off 4) (hoff 4)
  vecProg h7 b v5 v42 (off 5) (hoff 5)
  vecProg h7 b v5 v42 (off 6) (hoff 6)
  vecProg h7 b v5 v42 (off 7) (hoff 7)

/-- The eight offsets of a trip of the first inner loop, -/
def offs3 (t : Fin k1_t3_loop.trips) : Fin 8 → Fin 1 → ℕ :=
  ![k1_off6 t, k1_off7 t, k1_off8 t, k1_off9 t, k1_off10 t, k1_off11 t, k1_off12 t, k1_off13 t]
/-- and of the second. -/
def offs4 (t : Fin k1_t4_loop.trips) : Fin 8 → Fin 1 → ℕ :=
  ![k1_off16 t, k1_off17 t, k1_off18 t, k1_off19 t, k1_off20 t, k1_off21 t, k1_off22 t, k1_off23 t]

theorem offs3_inb (t : Fin k1_t3_loop.trips) : ∀ u a, offs3 t u a + S16.size a ≤ S32768.size a
  | 0 => k1_off6_inb t | 1 => k1_off7_inb t | 2 => k1_off8_inb t | 3 => k1_off9_inb t
  | 4 => k1_off10_inb t | 5 => k1_off11_inb t | 6 => k1_off12_inb t | 7 => k1_off13_inb t
theorem offs4_inb (t : Fin k1_t4_loop.trips) : ∀ u a, offs4 t u a + S16.size a ≤ S32768.size a
  | 0 => k1_off16_inb t | 1 => k1_off17_inb t | 2 => k1_off18_inb t | 3 => k1_off19_inb t
  | 4 => k1_off20_inb t | 5 => k1_off21_inb t | 6 => k1_off22_inb t | 7 => k1_off23_inb t

theorem offs3_eq (t : Fin k1_t3_loop.trips) : ∀ u, offs3 t u 0 = 16 * (8 * t.val + u.val) := by
  intro u
  match u with
  | 0 => exact (congrFun (k1_off6_eq t) 0).trans (show 128 * t.val = 16 * (8 * t.val + 0) by omega)
  | 1 => exact (congrFun (k1_off7_eq t) 0).trans (show 128 * t.val + 16 = 16 * (8 * t.val + 1) by omega)
  | 2 => exact (congrFun (k1_off8_eq t) 0).trans (show 128 * t.val + 32 = 16 * (8 * t.val + 2) by omega)
  | 3 => exact (congrFun (k1_off9_eq t) 0).trans (show 128 * t.val + 48 = 16 * (8 * t.val + 3) by omega)
  | 4 => exact (congrFun (k1_off10_eq t) 0).trans (show 128 * t.val + 64 = 16 * (8 * t.val + 4) by omega)
  | 5 => exact (congrFun (k1_off11_eq t) 0).trans (show 128 * t.val + 80 = 16 * (8 * t.val + 5) by omega)
  | 6 => exact (congrFun (k1_off12_eq t) 0).trans (show 128 * t.val + 96 = 16 * (8 * t.val + 6) by omega)
  | 7 => exact (congrFun (k1_off13_eq t) 0).trans (show 128 * t.val + 112 = 16 * (8 * t.val + 7) by omega)

theorem offs4_eq (t : Fin k1_t4_loop.trips) : ∀ u, offs4 t u 0 = 16 * (8 * t.val + u.val) := by
  intro u
  match u with
  | 0 => exact (congrFun (k1_off16_eq t) 0).trans (show 128 * t.val = 16 * (8 * t.val + 0) by omega)
  | 1 => exact (congrFun (k1_off17_eq t) 0).trans (show 128 * t.val + 16 = 16 * (8 * t.val + 1) by omega)
  | 2 => exact (congrFun (k1_off18_eq t) 0).trans (show 128 * t.val + 32 = 16 * (8 * t.val + 2) by omega)
  | 3 => exact (congrFun (k1_off19_eq t) 0).trans (show 128 * t.val + 48 = 16 * (8 * t.val + 3) by omega)
  | 4 => exact (congrFun (k1_off20_eq t) 0).trans (show 128 * t.val + 64 = 16 * (8 * t.val + 4) by omega)
  | 5 => exact (congrFun (k1_off21_eq t) 0).trans (show 128 * t.val + 80 = 16 * (8 * t.val + 5) by omega)
  | 6 => exact (congrFun (k1_off22_eq t) 0).trans (show 128 * t.val + 96 = 16 * (8 * t.val + 6) by omega)
  | 7 => exact (congrFun (k1_off23_eq t) 0).trans (show 128 * t.val + 112 = 16 * (8 * t.val + 7) by omega)

/-- Eight vectors run: the chunk's histogram goes eight vectors on. -/
theorem wp_vecProg8 {d : Dev nD} {c : Fin τ.nSC} {s : Fin τ.nSub} {b : Memref sig .scVector .vmem S32768 .f32}
    {B : Vec F S32768 .f32} {fB : Buf (Elt F) (b.view.loc (SparseCore.V d c s))}
    (hrd : ∀ (off : Fin 1 → ℕ) (ho : ∀ a, off a + S16.size a ≤ S32768.size a) (n : ℕ), off 0 = 16 * n →
      (b.access (Rect.unit (s := S32768) off S16.size ho)).read (Elt F) fB = vecAt B n)
    (v5 : Vec F S16 .f32) (v42 : BitVec 32) (off : Fin 8 → Fin 1 → ℕ) (ho : ∀ u a, off u a + S16.size a ≤ S32768.size a) (k : ℕ)
    (hn : ∀ u, off u 0 = 16 * (8 * k + u.val)) (h : Vec F S16384 .f32) :
    iprop(((histW).view.loc (SparseCore.V d c s) ↦{fullShare} chunkHist v5 v42 B h (8 * k)) ∗ (b.view.loc (SparseCore.V d c s) ↦{fullShare} fB))
      ⊢ wp (M := MT nD τ sig (HIx 1) (Elt F) ℕ UU ℕ) frame (wpE (defs₀ (F := F)) 𝒱₀ (SparseCore.V d c s) none) Set.univ
          (vecProg8 histW b v5 v42 off ho) fun _ =>
          iprop(((histW).view.loc (SparseCore.V d c s) ↦{fullShare} chunkHist v5 v42 B h (8 * (k + 1))) ∗ (b.view.loc (SparseCore.V d c s) ↦{fullShare} fB)) := by
  unfold vecProg8
  have one (n : ℕ) (u : Fin 8) (hu : n = 8 * k + u.val) := wp_vecProg (d := d) (c := c) (s := s) hrd v5 v42 (off u) (ho u) n (hu ▸ hn u) (chunkHist v5 v42 B h n)
  simp only [wp_bind]
  refine (one (8 * k) 0 rfl).trans (wp_mono _ _ _ fun _ => ?_)
  refine (one (8 * k + 1) 1 rfl).trans (wp_mono _ _ _ fun _ => ?_)
  refine (one (8 * k + 2) 2 rfl).trans (wp_mono _ _ _ fun _ => ?_)
  refine (one (8 * k + 3) 3 rfl).trans (wp_mono _ _ _ fun _ => ?_)
  refine (one (8 * k + 4) 4 rfl).trans (wp_mono _ _ _ fun _ => ?_)
  refine (one (8 * k + 5) 5 rfl).trans (wp_mono _ _ _ fun _ => ?_)
  refine (one (8 * k + 6) 6 rfl).trans (wp_mono _ _ _ fun _ => ?_)
  exact one (8 * k + 7) 7 rfl

set_option maxRecDepth 65536 in
set_option maxHeartbeats 4000000 in
/-- A trip of the first inner loop is eight vectors of the first buffer. -/
theorem t3_body_eq (i : grid1.Coords) (a2 : Memref sig .scVector .hbm S16777216 .f32) (h2 : a2.IsWhole) (a3 : Memref sig .scVector .hbm S16777216 .f32) (h3 : a3.IsWhole)
    (a4 : Memref sig .scVector .hbm S16 .f32) (h4 : a4.IsWhole) (a5 : Memref sig .scVector .hbm S524288 .f32) (h5 : a5.IsWhole)
    (a6 : Memref sig .scVector .vmem S16 .f32) (h6 : a6.IsWhole) (a7 : Memref sig .scVector .vmem S16384 .f32) (h7 : a7.IsWhole)
    (a8 : Memref sig .scVector .vmem S32768 .f32) (h8 : a8.IsWhole) (a9 : Memref sig .scVector .vmem S32768 .f32) (h9 : a9.IsWhole)
    (s10 s11 r0 r1 : DmaSems sig S_) (v2 : BitVec 32) (v5 : Vec F S16 .f32) (t2 : Fin k1_t2_loop.trips) (t3 : Fin k1_t3_loop.trips) :
    k1_t3_body i a2 h2 a3 h3 a4 h4 a5 h5 a6 h6 a7 h7 a8 h8 a9 h9 s10 s11 r0 r1 v2 v5 (k1_pay109 v5) k1_pay110 0#32 1#32 t2 t3 ()
      = vecProg8 a7 a8 v5 (Scalar.addi (Scalar.muli (Scf.iv 0#32 1#32 t2) 2#32) 0#32) (offs3 t3) (offs3_inb t3) := rfl

set_option maxRecDepth 65536 in
set_option maxHeartbeats 4000000 in
/-- A trip of the second inner loop is eight vectors of the second buffer. -/
theorem t4_body_eq (i : grid1.Coords) (a2 : Memref sig .scVector .hbm S16777216 .f32) (h2 : a2.IsWhole) (a3 : Memref sig .scVector .hbm S16777216 .f32) (h3 : a3.IsWhole)
    (a4 : Memref sig .scVector .hbm S16 .f32) (h4 : a4.IsWhole) (a5 : Memref sig .scVector .hbm S524288 .f32) (h5 : a5.IsWhole)
    (a6 : Memref sig .scVector .vmem S16 .f32) (h6 : a6.IsWhole) (a7 : Memref sig .scVector .vmem S16384 .f32) (h7 : a7.IsWhole)
    (a8 : Memref sig .scVector .vmem S32768 .f32) (h8 : a8.IsWhole) (a9 : Memref sig .scVector .vmem S32768 .f32) (h9 : a9.IsWhole)
    (s10 s11 r0 r1 : DmaSems sig S_) (v5 : Vec F S16 .f32) (v42 : BitVec 32) (t4 : Fin k1_t4_loop.trips) :
    k1_t4_body i a2 h2 a3 h3 a4 h4 a5 h5 a6 h6 a7 h7 a8 h8 a9 h9 s10 s11 r0 r1 v5 v42 t4 ()
      = vecProg8 a7 a9 v5 v42 (offs4 t4) (offs4_inb t4) := rfl

end Vector

end Cert.Proof.KernelIdeal

end
-- ==== Proof.KernelIdeal.Dma.lean ====
/- The tile's transfers: a copy in flight with what its wait brings back, the fetch of one chunk of an image, and what a
   chunk holds. -/
module

public import proofs.«01_k».proof.Proof.KernelIdeal.Vec

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V T)
open Idealize.ShloMosaic.Transfers
open Idealize.ShloMosaic.Tactic

variable {F : FTy → Type}

local notation "𝕄" => MT nD τ sig (HIx 1) (Elt F) ℕ UU ℕ

/-! ## The arrays in HBM, as the body table passes them -/

abbrev i0W : Memref sig .scVector .hbm S16777216 .f32 := Memref.whole main_v3_scv
abbrev i1W : Memref sig .scVector .hbm S16777216 .f32 := Memref.whole main_v4_scv
abbrev mnW : Memref sig .scVector .hbm S16 .f32 := Memref.whole main_v2_scv
abbrev outW : Memref sig .scVector .hbm S524288 .f32 := Memref.whole main_v5_scv

abbrev mnLoc (d : Dev nD) : Loc nD τ sig := (SparseCore.T d).loc main_v2
abbrev i0Loc (d : Dev nD) : Loc nD τ sig := (SparseCore.T d).loc main_v3
abbrev i1Loc (d : Dev nD) : Loc nD τ sig := (SparseCore.T d).loc main_v4
abbrev outLoc (d : Dev nD) : Loc nD τ sig := (SparseCore.T d).loc main_v5

/-! ## What a chunk holds -/

/-- The 32768 elements of a flat image from position `o` on. -/
def window (A : Vec F S16777216 .f32) (o : ℕ) : Vec F S32768 .f32 := fun j => A (ix 16777216 (by decide) (o + (j 0).val))

/-- Chunk `c` of tile `w`: the first sixteen are the first image's, the others the second's. -/
def chunk (A B : Vec F S16777216 .f32) (w c : ℕ) : Vec F S32768 .f32 :=
  if c < 16 then window A (524288 * w + 32768 * c) else window B (524288 * w + 32768 * (c - 16))

theorem read_i0 (A : Vec F S16777216 .f32) (off : Fin 1 → ℕ) (ho : ∀ a, off a + S32768.size a ≤ S16777216.size a) :
    ((i0W).slice (Rect.unit (s := S16777216) off S32768.size ho) (fun _ => rfl)).view.read (Elt F) A = window A (off 0) := by
  funext j
  have hl : (j 0).val < 32768 := (j 0).isLt
  have h0 : off 0 + 32768 ≤ 16777216 := ho 0
  show A _ = A _
  congr 1
  funext a
  match a with
  | 0 => exact Fin.ext (show off 0 + 1 * (j 0).val = (off 0 + (j 0).val) % 16777216 by omega)

theorem read_i1 (A : Vec F S16777216 .f32) (off : Fin 1 → ℕ) (ho : ∀ a, off a + S32768.size a ≤ S16777216.size a) :
    ((i1W).slice (Rect.unit (s := S16777216) off S32768.size ho) (fun _ => rfl)).view.read (Elt F) A = window A (off 0) := read_i0 A off ho

/-! ## A copy in flight -/

section Flight

variable [FloatOps F]

/-- A copy of `N` units in flight on cell `sm`, whose wait brings back `D`. -/
def Pend (thr : Thread nD τ) (sm : SemLoc sig) (N : ℕ) (D : sProp 𝕄) : sProp 𝕄 :=
  iprop(∃ D' : sProp 𝕄, Flight countersEmb thr sm (none : HIx 1) N D' ∗ (D' -∗ D))

/-- A copy of part of an array into a whole buffer, issued: the array comes back whole at the wait, the buffer at what the
    copy reads. -/
theorem wp_fetch {d : Dev nD} {c : Fin τ.nSC} {s : Fin τ.nSub} {sh : Shape} (src : Memref sig .scVector .hbm sh .f32)
    (dstM : Memref sig .scVector .vmem sh .f32)
    (hn : 0 < sh.numel) (sem : DmaSem sig) {hs : src.view.WordExact} {hd : dstM.view.WordExact}
    {ht : (DmaTarget.here dstM : DmaTarget nD τ sig (.scVector c s) .vmem sh .f32).Typed .hbm (.dma sem)} (q : PosShare TreeShare)
    (A : Buf (Elt F) (src.view.loc (V d c s))) (fd B : Buf (Elt F) (dstM.view.loc (V d c s)))
    (hB : dstM.view.write (Elt F) fd (src.view.read (Elt F) A) Finset.univ = B)
    {k : PUnit → Prog (TpuEff nD τ sig (Elt F) Λ₀ (.scVector c s)) PUnit} {Q : PUnit → sProp 𝕄} :
    iprop((src.view.loc (V d c s) ↦{q} A) ∗ (dstM.view.loc (V d c s) ↦{fullShare} fd) ∗ semVal (V d c s, .dma sem) 0)
      ⊢ iprop((Pend (V d c s) (.dma sem) (dstM.view.amount (.dma sem))
            iprop((dstM.view.loc (V d c s) ↦{fullShare} B) ∗ (src.view.loc (V d c s) ↦{q} A))
          -∗ wp frame (wpE (defs₀ (F := F)) 𝒱₀ (V d c s) none) Set.univ (k ⟨⟩) Q)
        -∗ wp frame (wpE (defs₀ (F := F)) 𝒱₀ (V d c s) none) Set.univ
            (.op (.enqueueDma src (.here dstM) (.dma sem) hs hd ht) k) Q) := by
  iintro ⟨Hs, Hd, Hv⟩ Hk
  ihave Hs' := (pointsTo_split_subset (ℓ := src.view.loc (V d c s)) (I := src.view.set) (Finset.subset_univ _)).1 $$ Hs
  icases Hs' with ⟨Hw, Hr⟩
  iapply (wp_dmaLocal countersEmb 𝒱₀ (V d c s) none (none : HIx 1) (dstM.view.amount (.dma sem)) rfl (View.amount_pos _ _ hn)
    (Finset.subset_univ dstM.view.set) (q := q) (fs := A) (fd := fd)) $$ [Hw Hd Hv]
  · isplitl [Hw]; · iexact Hw
    isplitl [Hd] <;> iassumption
  iintro Hf
  iapply Hk
  unfold Pend
  iexists _
  isplitl [Hf]; · iexact Hf
  iintro ⟨Hb, Hw⟩
  isplitl [Hb]
  · rw [← hB]; iexact Hb
  · iapply (pointsTo_split_subset (ℓ := src.view.loc (V d c s)) (I := src.view.set) (Finset.subset_univ _)).2
    isplitl [Hw] <;> iassumption

/-- Waiting for a copy: what it brings back, and its cell at zero. -/
theorem wp_await {d : Dev nD} {c : Fin τ.nSC} {s : Fin τ.nSub} {sp sp' : Space} {s₁ s₂ : Shape} {κ' : Kind} {e₁ e₂ : EltTy} {sem : DmaSem sig}
    {srcw : Memref sig .scVector sp s₁ e₁} {dstw : Memref sig κ' sp' s₂ e₂} {hs : srcw.view.WordExact} {hd : dstw.view.WordExact}
    {N : ℕ} (hN : dstw.view.dmaCredit = N) {D : sProp 𝕄} {O : CellTallies nD τ sig (HIx 1)}
    {k : PUnit → Prog (TpuEff nD τ sig (Elt F) Λ₀ (.scVector c s)) PUnit} {Q : PUnit → sProp 𝕄} :
    iprop(Pend (V d c s) (.dma sem) N D ∗ (∃ W, owes (V d c s) O W) ∗ MayWaits (V d c s) (none : HIx 1) O)
      ⊢ iprop((iprop(D ∗ semVal (V d c s, .dma sem) 0 ∗ ∃ W, owes (V d c s) O W) -∗ wp frame (wpE (defs₀ (F := F)) 𝒱₀ (V d c s) none) Set.univ (k ⟨⟩) Q)
        -∗ wp frame (wpE (defs₀ (F := F)) 𝒱₀ (V d c s) none) Set.univ (.op (.waitDma2 sem srcw dstw hs hd) k) Q) := by
  unfold Pend
  iintro ⟨⟨%D', Hf, HD⟩, ⟨%W, HO⟩, #Hmw⟩ Hk
  iapply (wp_waitLocalO countersEmb 𝒱₀ (V d c s) none (none : HIx 1) (D := D') hN) $$ [Hf HO]
  · isplitl [Hf]; · iexact Hf
    isplitl [HO]; · iexact HO
    iapply (MayWaits.elim (c := V d c s) (SemLoc.dma sem)) $$ Hmw
  iintro ⟨Hd, Hv, HO⟩
  iapply Hk
  isplitl [HD Hd]; · iapply HD $$ Hd
  isplitl [Hv]; · iexact Hv
  iexists _; iexact HO

end Flight

/-! ## The conditions and offsets of the chunks' fetches -/

/-- Tile number of a (SparseCore, subcore) pair. -/
def wid (L : grid1.Coords) : ℕ := 2 * (L 1).val + (L 0).val

theorem cond1_eq : k1_cond1 = 1#1 := by decide +kernel
theorem cond2_ne : k1_cond2 ≠ 1#1 := by decide +kernel
theorem cond3_iff : ∀ t, k1_cond3 t = 1#1 ↔ t.val < 8 := by decide +kernel
theorem cond4_iff : ∀ t, k1_cond4 t = 1#1 ↔ 8 ≤ t.val := by decide +kernel
theorem cond5_iff : ∀ t, k1_cond5 t = 1#1 ↔ t.val < 7 := by decide +kernel
theorem cond6_iff : ∀ t, k1_cond6 t = 1#1 ↔ 7 ≤ t.val ∧ t.val < 15 := by decide +kernel

theorem off2_eq (L : grid1.Coords) : k1_off2 L 0 = 524288 * wid L :=
  (congrFun (k1_off2_eq L) 0).trans (show 1048576 * (L 1).val + 524288 * (L 0).val = _ by unfold wid; omega)
theorem off4_eq (L : grid1.Coords) (t : Fin k1_t2_loop.trips) : k1_off4 L t 0 = 524288 * wid L + 32768 * (2 * t.val + 1) :=
  (congrFun (k1_off4_eq L t) 0).trans (show 1048576 * (L 1).val + 524288 * (L 0).val + 65536 * t.val + 32768 = _ by unfold wid; omega)
theorem off14_eq (L : grid1.Coords) (t : Fin k1_t2_loop.trips) : k1_off14 L t 0 = 524288 * wid L + 32768 * (2 * t.val + 2) :=
  (congrFun (k1_off14_eq L t) 0).trans (show 1048576 * (L 1).val + 524288 * (L 0).val + 65536 * t.val + 65536 = _ by unfold wid; omega)
theorem off5_eq : ∀ (L : grid1.Coords) (t : Fin k1_t2_loop.trips), 8 ≤ t.val → k1_off5 L t 0 = 524288 * wid L + 32768 * (2 * t.val + 1 - 16) := by
  decide +kernel
theorem off15_eq : ∀ (L : grid1.Coords) (t : Fin k1_t2_loop.trips), 7 ≤ t.val → k1_off15 L t 0 = 524288 * wid L + 32768 * (2 * t.val + 2 - 16) := by
  decide +kernel

/-- The chunk number the two inner loops of an outer trip read. -/
theorem v42_even : ∀ t : Fin k1_t2_loop.trips, Scalar.addi (Scalar.muli (Scf.iv 0#32 1#32 t) 2#32) 0#32 = BitVec.ofNat 32 (2 * t.val) := by
  decide +kernel
theorem v42_odd : ∀ t : Fin k1_t2_loop.trips, Scalar.addi (Scalar.muli (Scf.iv 0#32 1#32 t) 2#32) 1#32 = BitVec.ofNat 32 (2 * t.val + 1) := by
  decide +kernel

theorem chunk_lo (A B : Vec F S16777216 .f32) (w c : ℕ) (h : c < 16) : chunk A B w c = window A (524288 * w + 32768 * c) := if_pos h
theorem chunk_hi (A B : Vec F S16777216 .f32) (w c : ℕ) (h : ¬ c < 16) : chunk A B w c = window B (524288 * w + 32768 * (c - 16)) := if_neg h

end Cert.Proof.KernelIdeal

end
-- ==== Proof.KernelIdeal.Tile.lean ====
/- The task of one tile: the histogram zeroed, the minimum fetched, the thirty-two chunks of the two images added to the
   histogram while the next one is fetched, and the histogram written out. -/
module

public import proofs.«01_k».proof.Proof.KernelIdeal.Dma

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V T)
open Idealize.ShloMosaic.Transfers
open Idealize.ShloMosaic.Tactic

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The zero of a histogram's entry. -/
def zeroF : F .f32 := Scalar.ofBits .f32 0x00000000#32

/-- Tile `w`'s histogram after its first `c` chunks of the two images `A` and `B`, binned below the minima `v5`. -/
def tileHist (v5 : Vec F S16 .f32) (A B : Vec F S16777216 .f32) (w : ℕ) : ℕ → Vec F S16384 .f32
  | 0 => fun _ => zeroF
  | c + 1 => chunkHist v5 (BitVec.ofNat 32 c) (chunk A B w c) (tileHist v5 A B w c) 2048

/-- The units of one chunk's copy. -/
abbrev cN : ℕ := (buf0W).view.amount (.dma cc1_scratch4.sem)

/-- Sixteen more zeros stored: the histogram is zero that far. -/
theorem write_zero (t : Fin k1_t1_loop.trips) (g : Vec F S16384 .f32) (hg : ∀ i : S16384.Idx, (i 0).val < 16 * t.val → g i = zeroF) (i : S16384.Idx)
    (hi : (i 0).val < 16 * (t.val + 1)) :
    ((histW).access (Rect.unit (s := S16384) (k1_off1 t) S16.size (k1_off1_inb t))).write (Elt F) g (k1_pay108 (F := F)) Finset.univ i = zeroF := by
  have ho : k1_off1 t 0 = 16 * t.val := congrFun (k1_off1_eq t) 0
  by_cases h : (i 0).val < 16 * t.val
  · by_cases hm : i ∈ ((histW).access (Rect.unit (s := S16384) (k1_off1 t) S16.size (k1_off1_inb t))).setOn Finset.univ
    · obtain ⟨x, -, rfl⟩ := Finset.mem_map.mp hm
      rw [View.write_emb_of_mem _ _ (Finset.mem_univ x)]
      rfl
    · rw [View.write_of_not_mem _ _ _ hm]
      exact hg i h
  · have hx : ((histW).access (Rect.unit (s := S16384) (k1_off1 t) S16.size (k1_off1_inb t))).emb (ix 16 (by decide) ((i 0).val - 16 * t.val)) = i := by
      funext a
      match a with
      | 0 => exact Fin.ext (show k1_off1 t 0 + 1 * (((i 0).val - 16 * t.val) % 16) = (i 0).val by omega)
    rw [← hx, View.write_emb_of_mem _ _ (Finset.mem_univ _)]
    rfl

section Body

variable (d : Dev nD) (L : grid1.Coords) (q : PosShare TreeShare)
  (A2 : Vec F S16 .f32) (A3 A4 : Vec F S16777216 .f32)

/-- The two images read at a share. -/
def imgs (q : PosShare TreeShare) : sProp 𝕄 := iprop((i0Loc d ↦{q} A3) ∗ (i1Loc d ↦{q} A4))

abbrev histP (h : Vec F S16384 .f32) : sProp 𝕄 := (histW).view.loc (thr d L) ↦{fullShare} h
abbrev buf0P (B : Vec F S32768 .f32) : sProp 𝕄 := (buf0W).view.loc (thr d L) ↦{fullShare} B
abbrev buf1P (B : Vec F S32768 .f32) : sProp 𝕄 := (buf1W).view.loc (thr d L) ↦{fullShare} B
abbrev sem0P : sProp 𝕄 := semVal (thr d L, .dma cc1_scratch4.sem) 0
abbrev sem1P : sProp 𝕄 := semVal (thr d L, .dma cc1_scratch5.sem) 0

/-- The first buffer idle, the second idle, -/
def Idle0 : sProp 𝕄 := iprop((∃ f, buf0P d L f) ∗ imgs d A3 A4 q.left ∗ sem0P d L)
def Idle1 : sProp 𝕄 := iprop((∃ f, buf1P d L f) ∗ imgs d A3 A4 q.right ∗ sem1P d L)
/-- and each with chunk `c` in flight. -/
def Fly0 (c : ℕ) : sProp 𝕄 := Pend (thr d L) (.dma cc1_scratch4.sem) cN iprop(buf0P d L (chunk A3 A4 (wid L) c) ∗ imgs d A3 A4 q.left)
def Fly1 (c : ℕ) : sProp 𝕄 := Pend (thr d L) (.dma cc1_scratch5.sem) cN iprop(buf1P d L (chunk A3 A4 (wid L) c) ∗ imgs d A3 A4 q.right)

omit [FloatOps F] in
/-- What a copy brings back may be traded for anything it yields together with what else is held. -/
theorem Pend_frame {thr : Thread nD τ} {sm : SemLoc sig} {N : ℕ} {D R D' : sProp 𝕄} (h : iprop(D ∗ R) ⊢ D') :
    iprop(Pend thr sm N D ∗ R) ⊢ Pend thr sm N D' := by
  unfold Pend
  iintro ⟨⟨%E, Hf, HE⟩, HR⟩
  iexists E
  isplitl [Hf]; · iexact Hf
  iintro HD
  iapply h
  isplitl [HE HD]; · iapply HE $$ HD
  iexact HR

/-- A chunk's fetch issued, what is held beside it put into what the wait brings back. -/
theorem wp_start {sh : Shape} (src : Memref sig .scVector .hbm sh .f32) (dstM : Memref sig .scVector .vmem sh .f32)
    (hn : 0 < sh.numel) (sem : DmaSem sig) (q : PosShare TreeShare)
    (A : Buf (Elt F) (src.view.loc (thr d L))) (fd B : Buf (Elt F) (dstM.view.loc (thr d L)))
    (hB : dstM.view.write (Elt F) fd (src.view.read (Elt F) A) Finset.univ = B) (R D : sProp 𝕄)
    (hD : iprop(((dstM.view.loc (thr d L) ↦{fullShare} B) ∗ (src.view.loc (thr d L) ↦{q} A)) ∗ R) ⊢ D)
    {hs hd ht} {Φ : PUnit → sProp 𝕄} :
    iprop(((src.view.loc (thr d L) ↦{q} A) ∗ (dstM.view.loc (thr d L) ↦{fullShare} fd) ∗ semVal (thr d L, .dma sem) 0) ∗ R)
      ⊢ iprop((Pend (thr d L) (.dma sem) (dstM.view.amount (.dma sem)) D -∗ Φ ⟨⟩)
      -∗ wp frame (wpE (defs₀ (F := F)) 𝒱₀ (thr d L) none) Set.univ
        (Prog.lift (.enqueueDma src (.here dstM) (.dma sem) hs hd ht)) Φ) := by
  iintro ⟨H, HR⟩ Hk
  iapply (wp_fetch (d := d) (c := cV L) (s := jV L) src dstM hn sem q A fd B hB) $$ H
  iintro Hp
  iapply (le_wp_ret _ _)
  iapply Hk
  iapply (Pend_frame hD)
  isplitl [Hp] <;> iassumption

/-- Chunk `c` of the first image started into buffer 0. -/
theorem wp_start00 (c : ℕ) (hc : c < 16) (off : Fin 1 → ℕ) (ho : ∀ a, off a + S32768.size a ≤ S16777216.size a) (he : off 0 = 524288 * wid L + 32768 * c)
    {hs hd ht} {Φ : PUnit → sProp 𝕄} :
    Idle0 d L q A3 A4 ⊢ iprop((Fly0 d L q A3 A4 c -∗ Φ ⟨⟩)
      -∗ wp frame (wpE (defs₀ (F := F)) 𝒱₀ (thr d L) none) Set.univ
        (Prog.lift (.enqueueDma ((i0W).slice (Rect.unit (s := S16777216) off S32768.size ho) (fun _ => rfl)) (.here buf0W) (.dma cc1_scratch4.sem) hs hd ht)) Φ) := by
  unfold Idle0 Fly0 imgs
  iintro ⟨⟨%f, Hb⟩, ⟨H3, H4⟩, Hv⟩
  iapply (wp_start d L ((i0W).slice (Rect.unit (s := S16777216) off S32768.size ho) (fun _ => rfl)) buf0W (show 0 < S32768.numel by decide) cc1_scratch4.sem
    q.left A3 f (chunk A3 A4 (wid L) c) (by rw [read_i0, he, chunk_lo _ _ _ _ hc]; exact View.write_whole_univ _ _ _)
    iprop(i1Loc d ↦{q.left} A4) iprop(buf0P d L (chunk A3 A4 (wid L) c) ∗ (i0Loc d ↦{q.left} A3) ∗ (i1Loc d ↦{q.left} A4)) (by
      iintro ⟨⟨Hb, H3⟩, H4⟩
      isplitl [Hb]; · iexact Hb
      isplitl [H3] <;> iassumption))
  isplitr [H4]
  · isplitl [H3]; · iexact H3
    isplitl [Hb] <;> iassumption
  iexact H4

/-- Chunk `c` of the second image started into buffer 0. -/
theorem wp_start10 (c : ℕ) (hc : ¬ c < 16) (off : Fin 1 → ℕ) (ho : ∀ a, off a + S32768.size a ≤ S16777216.size a) (he : off 0 = 524288 * wid L + 32768 * (c - 16))
    {hs hd ht} {Φ : PUnit → sProp 𝕄} :
    Idle0 d L q A3 A4 ⊢ iprop((Fly0 d L q A3 A4 c -∗ Φ ⟨⟩)
      -∗ wp frame (wpE (defs₀ (F := F)) 𝒱₀ (thr d L) none) Set.univ
        (Prog.lift (.enqueueDma ((i1W).slice (Rect.unit (s := S16777216) off S32768.size ho) (fun _ => rfl)) (.here buf0W) (.dma cc1_scratch4.sem) hs hd ht)) Φ) := by
  unfold Idle0 Fly0 imgs
  iintro ⟨⟨%f, Hb⟩, ⟨H3, H4⟩, Hv⟩
  iapply (wp_start d L ((i1W).slice (Rect.unit (s := S16777216) off S32768.size ho) (fun _ => rfl)) buf0W (show 0 < S32768.numel by decide) cc1_scratch4.sem
    q.left A4 f (chunk A3 A4 (wid L) c) (by rw [read_i1, he, chunk_hi _ _ _ _ hc]; exact View.write_whole_univ _ _ _)
    iprop(i0Loc d ↦{q.left} A3) iprop(buf0P d L (chunk A3 A4 (wid L) c) ∗ (i0Loc d ↦{q.left} A3) ∗ (i1Loc d ↦{q.left} A4)) (by
      iintro ⟨⟨Hb, H4⟩, H3⟩
      isplitl [Hb]; · iexact Hb
      isplitl [H3] <;> iassumption))
  isplitr [H3]
  · isplitl [H4]; · iexact H4
    isplitl [Hb] <;> iassumption
  iexact H3

/-- Chunk `c` of the first image started into buffer 1. -/
theorem wp_start01 (c : ℕ) (hc : c < 16) (off : Fin 1 → ℕ) (ho : ∀ a, off a + S32768.size a ≤ S16777216.size a) (he : off 0 = 524288 * wid L + 32768 * c)
    {hs hd ht} {Φ : PUnit → sProp 𝕄} :
    Idle1 d L q A3 A4 ⊢ iprop((Fly1 d L q A3 A4 c -∗ Φ ⟨⟩)
      -∗ wp frame (wpE (defs₀ (F := F)) 𝒱₀ (thr d L) none) Set.univ
        (Prog.lift (.enqueueDma ((i0W).slice (Rect.unit (s := S16777216) off S32768.size ho) (fun _ => rfl)) (.here buf1W) (.dma cc1_scratch5.sem) hs hd ht)) Φ) := by
  unfold Idle1 Fly1 imgs
  iintro ⟨⟨%f, Hb⟩, ⟨H3, H4⟩, Hv⟩
  iapply (wp_start d L ((i0W).slice (Rect.unit (s := S16777216) off S32768.size ho) (fun _ => rfl)) buf1W (show 0 < S32768.numel by decide) cc1_scratch5.sem
    q.right A3 f (chunk A3 A4 (wid L) c) (by rw [read_i0, he, chunk_lo _ _ _ _ hc]; exact View.write_whole_univ _ _ _)
    iprop(i1Loc d ↦{q.right} A4) iprop(buf1P d L (chunk A3 A4 (wid L) c) ∗ (i0Loc d ↦{q.right} A3) ∗ (i1Loc d ↦{q.right} A4)) (by
      iintro ⟨⟨Hb, H3⟩, H4⟩
      isplitl [Hb]; · iexact Hb
      isplitl [H3] <;> iassumption))
  isplitr [H4]
  · isplitl [H3]; · iexact H3
    isplitl [Hb] <;> iassumption
  iexact H4

/-- Chunk `c` of the second image started into buffer 1. -/
theorem wp_start11 (c : ℕ) (hc : ¬ c < 16) (off : Fin 1 → ℕ) (ho : ∀ a, off a + S32768.size a ≤ S16777216.size a) (he : off 0 = 524288 * wid L + 32768 * (c - 16))
    {hs hd ht} {Φ : PUnit → sProp 𝕄} :
    Idle1 d L q A3 A4 ⊢ iprop((Fly1 d L q A3 A4 c -∗ Φ ⟨⟩)
      -∗ wp frame (wpE (defs₀ (F := F)) 𝒱₀ (thr d L) none) Set.univ
        (Prog.lift (.enqueueDma ((i1W).slice (Rect.unit (s := S16777216) off S32768.size ho) (fun _ => rfl)) (.here buf1W) (.dma cc1_scratch5.sem) hs hd ht)) Φ) := by
  unfold Idle1 Fly1 imgs
  iintro ⟨⟨%f, Hb⟩, ⟨H3, H4⟩, Hv⟩
  iapply (wp_start d L ((i1W).slice (Rect.unit (s := S16777216) off S32768.size ho) (fun _ => rfl)) buf1W (show 0 < S32768.numel by decide) cc1_scratch5.sem
    q.right A4 f (chunk A3 A4 (wid L) c) (by rw [read_i1, he, chunk_hi _ _ _ _ hc]; exact View.write_whole_univ _ _ _)
    iprop(i0Loc d ↦{q.right} A3) iprop(buf1P d L (chunk A3 A4 (wid L) c) ∗ (i0Loc d ↦{q.right} A3) ∗ (i1Loc d ↦{q.right} A4)) (by
      iintro ⟨⟨Hb, H4⟩, H3⟩
      isplitl [Hb]; · iexact Hb
      isplitl [H3] <;> iassumption))
  isplitr [H3]
  · isplitl [H4]; · iexact H4
    isplitl [Hb] <;> iassumption
  iexact H3

/-- The wait for buffer 0's chunk. -/
theorem wp_await0 (c : ℕ) (O : CellTallies nD τ sig (HIx 1)) {sp : Space} {s₁ : Shape} {e₁ : EltTy}
    {srcw : Memref sig .scVector sp s₁ e₁} {hs hd} {Φ : PUnit → sProp 𝕄} :
    iprop(Fly0 d L q A3 A4 c ∗ (∃ W, owes (thr d L) O W) ∗ MayWaits (thr d L) (none : HIx 1) O)
      ⊢ iprop((iprop((buf0P d L (chunk A3 A4 (wid L) c) ∗ imgs d A3 A4 q.left) ∗ sem0P d L ∗ ∃ W, owes (thr d L) O W) -∗ Φ ⟨⟩)
      -∗ wp frame (wpE (defs₀ (F := F)) 𝒱₀ (thr d L) none) Set.univ
        (Prog.lift (.waitDma2 cc1_scratch4.sem srcw buf0W hs hd)) Φ) := by
  unfold Fly0
  iintro H Hk
  iapply (wp_await (d := d) (c := cV L) (s := jV L) (sem := cc1_scratch4.sem) (dstw := buf0W) (N := cN) rfl (D := iprop(buf0P d L (chunk A3 A4 (wid L) c) ∗ imgs d A3 A4 q.left)) (O := O)) $$ H
  iintro HD
  iapply (le_wp_ret _ _)
  iapply Hk
  iexact HD

/-- The wait for buffer 1's chunk. -/
theorem wp_await1 (c : ℕ) (O : CellTallies nD τ sig (HIx 1)) {sp : Space} {s₁ : Shape} {e₁ : EltTy}
    {srcw : Memref sig .scVector sp s₁ e₁} {hs hd} {Φ : PUnit → sProp 𝕄} :
    iprop(Fly1 d L q A3 A4 c ∗ (∃ W, owes (thr d L) O W) ∗ MayWaits (thr d L) (none : HIx 1) O)
      ⊢ iprop((iprop((buf1P d L (chunk A3 A4 (wid L) c) ∗ imgs d A3 A4 q.right) ∗ sem1P d L ∗ ∃ W, owes (thr d L) O W) -∗ Φ ⟨⟩)
      -∗ wp frame (wpE (defs₀ (F := F)) 𝒱₀ (thr d L) none) Set.univ
        (Prog.lift (.waitDma2 cc1_scratch5.sem srcw buf1W hs hd)) Φ) := by
  unfold Fly1
  iintro H Hk
  iapply (wp_await (d := d) (c := cV L) (s := jV L) (sem := cc1_scratch5.sem) (dstw := buf1W) (N := cN) rfl (D := iprop(buf1P d L (chunk A3 A4 (wid L) c) ∗ imgs d A3 A4 q.right)) (O := O)) $$ H
  iintro HD
  iapply (le_wp_ret _ _)
  iapply Hk
  iexact HD

/-- The first inner loop: chunk `2 * t2`, in buffer 0, added to the histogram. -/
theorem wp_loop3 (v5 : Vec F S16 .f32) (v2 : BitVec 32) (t2 : Fin k1_t2_loop.trips) (h : Vec F S16384 .f32) (B : Vec F S32768 .f32) {Φ : PUnit → sProp 𝕄} :
    iprop(histP d L h ∗ buf0P d L B)
      ⊢ iprop((iprop(histP d L (chunkHist v5 (BitVec.ofNat 32 (2 * t2.val)) B h 2048) ∗ buf0P d L B) -∗ Φ ⟨⟩)
      -∗ wp frame (wpE (defs₀ (F := F)) 𝒱₀ (thr d L) none) Set.univ
        (Scf.Loop.for k1_t3_loop k1_t3_ok ⟨⟩ (k1_t3_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v2 v5 (k1_pay109 v5) k1_pay110 0#32 1#32 t2)) Φ) := by
  rw [show (2048 : ℕ) = 8 * k1_t3_loop.trips by decide]
  iintro H Hk
  iapply (Scf.wp_for frame (wpE (defs₀ (F := F)) 𝒱₀ (thr d L) none) Set.univ _ _ _ k1_t3_ok ⟨⟩ _
    (fun k _ => iprop(histP d L (chunkHist v5 (BitVec.ofNat 32 (2 * t2.val)) B h (8 * k)) ∗ buf0P d L B)) ?_)
  · intro t3 _
    rw [t3_body_eq, v42_even]
    exact wp_vecProg8 (b := buf0W) (read_buf0 B) v5 _ (offs3 t3) (offs3_inb t3) t3.val (offs3_eq t3) h
  isplitl [H]; · iexact H
  iintro %acc H
  iapply Hk $$ H

/-- The second inner loop: chunk `2 * t2 + 1`, in buffer 1, added to the histogram. -/
theorem wp_loop4 (v5 : Vec F S16 .f32) (v42 : BitVec 32) (h : Vec F S16384 .f32) (B : Vec F S32768 .f32) {Φ : PUnit → sProp 𝕄} :
    iprop(histP d L h ∗ buf1P d L B)
      ⊢ iprop((iprop(histP d L (chunkHist v5 v42 B h 2048) ∗ buf1P d L B) -∗ Φ ⟨⟩)
      -∗ wp frame (wpE (defs₀ (F := F)) 𝒱₀ (thr d L) none) Set.univ
        (Scf.Loop.for k1_t4_loop k1_t4_ok ⟨⟩ (k1_t4_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v5 v42)) Φ) := by
  rw [show (2048 : ℕ) = 8 * k1_t4_loop.trips by decide]
  iintro H Hk
  iapply (Scf.wp_for frame (wpE (defs₀ (F := F)) 𝒱₀ (thr d L) none) Set.univ _ _ _ k1_t4_ok ⟨⟩ _
    (fun k _ => iprop(histP d L (chunkHist v5 v42 B h (8 * k)) ∗ buf1P d L B)) ?_)
  · intro t4 _
    rw [t4_body_eq]
    exact wp_vecProg8 (b := buf1W) (read_buf1 B) v5 _ (offs4 t4) (offs4_inb t4) t4.val (offs4_eq t4) h
  isplitl [H]; · iexact H
  iintro %acc H
  iapply Hk $$ H

/-- Buffer 0 between two outer trips: the next even chunk in flight, or idle after the last. -/
def Next0 (t : ℕ) : sProp 𝕄 := if t < 16 then Fly0 d L q A3 A4 (2 * t) else Idle0 d L q A3 A4

/-- What buffer 0 is at after the first half of an outer trip. -/
def Mid0 (t : ℕ) : sProp 𝕄 := if t < 7 then Fly0 d L q A3 A4 (2 * t + 2) else Idle0 d L q A3 A4

/-- The even chunk awaited and added, and the next even one started if it is the first image's. -/
theorem wp_mid (v2 : BitVec 32) (v5 : Vec F S16 .f32) (t2 : Fin k1_t2_loop.trips) (O : CellTallies nD τ sig (HIx 1))
    {sp : Space} {s₁ : Shape} {e₁ : EltTy} {srcw : Memref sig .scVector sp s₁ e₁} {hs hd} {ρ : Type} (r : ρ) {Φ : ρ → sProp 𝕄} :
    iprop(MayWaits (thr d L) (none : HIx 1) O ∗ histP d L (tileHist v5 A3 A4 (wid L) (2 * t2.val)) ∗ Fly0 d L q A3 A4 (2 * t2.val) ∗ ∃ W, owes (thr d L) O W)
      ⊢ iprop((iprop(histP d L (tileHist v5 A3 A4 (wid L) (2 * t2.val + 1)) ∗ Mid0 d L q A3 A4 t2.val ∗ ∃ W, owes (thr d L) O W) -∗ Φ r)
      -∗ wp frame (wpE (defs₀ (F := F)) 𝒱₀ (thr d L) none) Set.univ (Prog.lift (.waitDma2 cc1_scratch4.sem srcw buf0W hs hd)) fun _ =>
        wp frame (wpE (defs₀ (F := F)) 𝒱₀ (thr d L) none) Set.univ
          (Scf.Loop.for k1_t3_loop k1_t3_ok ⟨⟩ (k1_t3_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v2 v5 (k1_pay109 v5) k1_pay110 0#32 1#32 t2)) fun _ =>
        wp frame (wpE (defs₀ (F := F)) 𝒱₀ (thr d L) none) Set.univ
          (if h : k1_cond5 t2 = 1#1 then (do
              Prog.lift (.enqueueDma ((i0W).slice (Rect.unit (s := S16777216) (k1_off14 L t2) S32768.size (k1_off14_inb L t2 h)) (fun _ => rfl)) (.here buf0W) (.dma cc1_scratch4.sem) (View.wordExact_bits rfl) (Memref.isWhole_whole _).wordExact ⟨Or.inl rfl, trivial⟩)
              pure r) else pure r) Φ) := by
  iintro ⟨#Hmw, Hh, Hf, HO⟩ Hk
  iapply (wp_await0 d L q A3 A4 (2 * t2.val) O) $$ [Hf HO]
  · isplitl [Hf]; · iexact Hf
    isplitl [HO]; · iexact HO
    iexact Hmw
  iintro ⟨⟨Hb, Hi⟩, Hv, HO⟩
  iapply (wp_loop3 d L v5 v2 t2 (tileHist v5 A3 A4 (wid L) (2 * t2.val)) (chunk A3 A4 (wid L) (2 * t2.val))) $$ [Hh Hb]
  · isplitl [Hh] <;> iassumption
  iintro ⟨Hh, Hb⟩
  by_cases h7 : t2.val < 7
  · rw [dif_pos ((cond5_iff t2).mpr h7), wp_bind]
    unfold Mid0
    rw [if_pos h7]
    iapply (wp_start00 d L q A3 A4 (2 * t2.val + 2) (by omega) (k1_off14 L t2) _ (off14_eq L t2)) $$ [Hb Hi Hv]
    · unfold Idle0
      isplitl [Hb]; · iexists _; iexact Hb
      isplitl [Hi] <;> iassumption
    iintro Hf
    iapply (le_wp_ret _ _)
    iapply Hk
    isplitl [Hh]; · iexact Hh
    isplitl [Hf] <;> iassumption
  · rw [dif_neg (fun h => h7 ((cond5_iff t2).mp h))]
    unfold Mid0
    rw [if_neg h7]
    iapply (le_wp_ret _ _)
    iapply Hk
    isplitl [Hh]; · iexact Hh
    isplitr [HO]
    · unfold Idle0
      isplitl [Hb]; · iexists _; iexact Hb
      isplitl [Hi] <;> iassumption
    iexact HO

/-- The first half of an outer trip: the odd chunk started, the even one awaited and added, the next even one started if it
    is the first image's. -/
theorem wp_part9 (v2 : BitVec 32) (v5 : Vec F S16 .f32) (t2 : Fin k1_t2_loop.trips) (O : CellTallies nD τ sig (HIx 1)) :
    iprop(MayWaits (thr d L) (none : HIx 1) O ∗ histP d L (tileHist v5 A3 A4 (wid L) (2 * t2.val)) ∗ Next0 d L q A3 A4 t2.val ∗ Idle1 d L q A3 A4 ∗ ∃ W, owes (thr d L) O W)
      ⊢ wp frame (wpE (defs₀ (F := F)) 𝒱₀ (thr d L) none) Set.univ
        (k1_part9 L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v2 v5 (k1_pay109 v5) k1_pay110 0#32 1#32 t2)
        fun r => iprop(⌜r.1 = Scalar.addi (Scalar.muli (Scf.iv 0#32 1#32 t2) 2#32) 1#32⌝ ∗ MayWaits (thr d L) (none : HIx 1) O
          ∗ histP d L (tileHist v5 A3 A4 (wid L) (2 * t2.val + 1)) ∗ Fly1 d L q A3 A4 (2 * t2.val + 1)
          ∗ Mid0 d L q A3 A4 t2.val ∗ ∃ W, owes (thr d L) O W) := by
  have ht : t2.val < 16 := t2.isLt
  rw [k1_part9_eq_skeleton]
  unfold k1_part9_skel Next0
  rw [if_pos ht]
  rcases Nat.lt_or_ge t2.val 8 with h8 | h8
  · have h3 := (cond3_iff t2).mpr h8
    have h4 : ¬ k1_cond4 t2 = 1#1 := fun h => absurd ((cond4_iff t2).mp h) (by omega)
    simp only [dif_pos h3, dif_neg h4, wp_bind]
    iintro ⟨#Hmw, Hh, Hf, Hi, HO⟩
    iapply (wp_start01 d L q A3 A4 (2 * t2.val + 1) (by omega) (k1_off4 L t2) _ (off4_eq L t2)) $$ Hi
    iintro Hf1
    iapply (wp_mid d L q A3 A4 v2 v5 t2 O _) $$ [Hh Hf HO]
    · isplitr; · iexact Hmw
      isplitl [Hh]; · iexact Hh
      isplitl [Hf] <;> iassumption
    iintro ⟨Hh, Hm, HO⟩
    isplitr; · ipureintro; rfl
    isplitr; · iexact Hmw
    isplitl [Hh]; · iexact Hh
    isplitl [Hf1]; · iexact Hf1
    isplitl [Hm] <;> iassumption
  · have h3 : ¬ k1_cond3 t2 = 1#1 := fun h => absurd ((cond3_iff t2).mp h) (by omega)
    have h4 := (cond4_iff t2).mpr h8
    simp only [dif_neg h3, dif_pos h4, wp_bind]
    iintro ⟨#Hmw, Hh, Hf, Hi, HO⟩
    iapply (wp_start11 d L q A3 A4 (2 * t2.val + 1) (by omega) (k1_off5 L t2) _ (off5_eq L t2 h8)) $$ Hi
    iintro Hf1
    iapply (wp_mid d L q A3 A4 v2 v5 t2 O _) $$ [Hh Hf HO]
    · isplitr; · iexact Hmw
      isplitl [Hh]; · iexact Hh
      isplitl [Hf] <;> iassumption
    iintro ⟨Hh, Hm, HO⟩
    isplitr; · ipureintro; rfl
    isplitr; · iexact Hmw
    isplitl [Hh]; · iexact Hh
    isplitl [Hf1]; · iexact Hf1
    isplitl [Hm] <;> iassumption

/-- The second half of an outer trip: the next even chunk started if it is the second image's, the odd one awaited and added. -/
theorem wp_t2 (v2 : BitVec 32) (v5 : Vec F S16 .f32) (t2 : Fin k1_t2_loop.trips) (O : CellTallies nD τ sig (HIx 1)) :
    iprop(MayWaits (thr d L) (none : HIx 1) O ∗ histP d L (tileHist v5 A3 A4 (wid L) (2 * t2.val)) ∗ Next0 d L q A3 A4 t2.val ∗ Idle1 d L q A3 A4 ∗ ∃ W, owes (thr d L) O W)
      ⊢ wp frame (wpE (defs₀ (F := F)) 𝒱₀ (thr d L) none) Set.univ
        (k1_t2_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v2 v5 t2 ⟨⟩)
        fun _ => iprop(MayWaits (thr d L) (none : HIx 1) O ∗ histP d L (tileHist v5 A3 A4 (wid L) (2 * (t2.val + 1))) ∗ Next0 d L q A3 A4 (t2.val + 1)
          ∗ Idle1 d L q A3 A4 ∗ ∃ W, owes (thr d L) O W) := by
  have ht : t2.val < 16 := t2.isLt
  unfold k1_t2_body
  rw [wp_bind]
  refine (wp_part9 d L q A3 A4 v2 v5 t2 O).trans (wp_mono _ _ _ fun r => ?_)
  obtain ⟨v42, v43, v50, c0⟩ := r
  have tail (Ψ : sProp 𝕄) (hΨ : Ψ ⊢ Next0 d L q A3 A4 (t2.val + 1)) {sp : Space} {s₁ : Shape} {e₁ : EltTy} {srcw : Memref sig .scVector sp s₁ e₁} {hs hd} :
      iprop(MayWaits (thr d L) (none : HIx 1) O ∗ histP d L (tileHist v5 A3 A4 (wid L) (2 * t2.val + 1)) ∗ Fly1 d L q A3 A4 (2 * t2.val + 1) ∗ Ψ ∗ ∃ W, owes (thr d L) O W)
        ⊢ wp frame (wpE (defs₀ (F := F)) 𝒱₀ (thr d L) none) Set.univ (Prog.lift (.waitDma2 cc1_scratch5.sem srcw buf1W hs hd)) fun _ =>
          wp frame (wpE (defs₀ (F := F)) 𝒱₀ (thr d L) none) Set.univ
            (Scf.Loop.for k1_t4_loop k1_t4_ok ⟨⟩ (k1_t4_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v5 (BitVec.ofNat 32 (2 * t2.val + 1)))) fun _ =>
          wp frame (wpE (defs₀ (F := F)) 𝒱₀ (thr d L) none) Set.univ (pure ⟨⟩) fun _ : Unit =>
            iprop(MayWaits (thr d L) (none : HIx 1) O ∗ histP d L (tileHist v5 A3 A4 (wid L) (2 * (t2.val + 1))) ∗ Next0 d L q A3 A4 (t2.val + 1)
              ∗ Idle1 d L q A3 A4 ∗ ∃ W, owes (thr d L) O W) := by
    iintro ⟨#Hmw, Hh, Hf, Hm, HO⟩
    iapply (wp_await1 d L q A3 A4 (2 * t2.val + 1) O) $$ [Hf HO]
    · isplitl [Hf]; · iexact Hf
      isplitl [HO]; · iexact HO
      iexact Hmw
    iintro ⟨⟨Hb, Hi⟩, Hv, HO⟩
    iapply (wp_loop4 d L v5 (BitVec.ofNat 32 (2 * t2.val + 1)) (tileHist v5 A3 A4 (wid L) (2 * t2.val + 1)) (chunk A3 A4 (wid L) (2 * t2.val + 1))) $$ [Hh Hb]
    · isplitl [Hh] <;> iassumption
    iintro ⟨Hh, Hb⟩
    iapply (le_wp_ret _ _)
    isplitr; · iexact Hmw
    isplitl [Hh]; · iexact Hh
    isplitl [Hm]; · iapply hΨ $$ Hm
    isplitr [HO]
    · unfold Idle1
      isplitl [Hb]; · iexists _; iexact Hb
      isplitl [Hi] <;> iassumption
    iexact HO
  iintro ⟨%hv, Hrest⟩
  have hv' : v42 = BitVec.ofNat 32 (2 * t2.val + 1) := hv.trans (v42_odd t2)
  subst hv'
  irevert Hrest
  by_cases h6 : 7 ≤ t2.val ∧ t2.val < 15
  · have hc := (cond6_iff t2).mpr h6
    simp only [dif_pos hc, wp_bind]
    unfold Mid0
    rw [if_neg (show ¬ t2.val < 7 by omega)]
    iintro ⟨#Hmw, Hh, Hf1, Hm, HO⟩
    iapply (wp_start10 d L q A3 A4 (2 * t2.val + 2) (by omega) (k1_off15 L t2) _ (off15_eq L t2 h6.1)) $$ Hm
    iintro Hf0
    iapply (tail (Fly0 d L q A3 A4 (2 * t2.val + 2)) (by unfold Next0; rw [if_pos (by omega), Nat.mul_add]))
    isplitr; · iexact Hmw
    isplitl [Hh]; · iexact Hh
    isplitl [Hf1]; · iexact Hf1
    isplitl [Hf0] <;> iassumption
  · have hc : ¬ k1_cond6 t2 = 1#1 := fun h => h6 ((cond6_iff t2).mp h)
    simp only [dif_neg hc, wp_bind]
    iintro ⟨#Hmw, Hh, Hf1, Hm, HO⟩
    iapply (tail (Mid0 d L q A3 A4 t2.val) (by
      unfold Next0 Mid0
      by_cases h7 : t2.val < 7
      · rw [if_pos h7, if_pos (by omega), Nat.mul_add]
      · rw [if_neg h7, if_neg (by omega)]))
    isplitr; · iexact Hmw
    isplitl [Hh]; · iexact Hh
    isplitl [Hf1]; · iexact Hf1
    isplitl [Hm] <;> iassumption

/-- The thirty-two chunks. -/
theorem wp_chunks (v2 : BitVec 32) (v5 : Vec F S16 .f32) (O : CellTallies nD τ sig (HIx 1)) {Φ : PUnit → sProp 𝕄} :
    iprop(MayWaits (thr d L) (none : HIx 1) O ∗ histP d L (fun _ => zeroF) ∗ Fly0 d L q A3 A4 0 ∗ Idle1 d L q A3 A4 ∗ ∃ W, owes (thr d L) O W)
      ⊢ iprop((iprop(histP d L (tileHist v5 A3 A4 (wid L) 32) ∗ Idle0 d L q A3 A4 ∗ Idle1 d L q A3 A4 ∗ ∃ W, owes (thr d L) O W) -∗ Φ ⟨⟩)
      -∗ wp frame (wpE (defs₀ (F := F)) 𝒱₀ (thr d L) none) Set.univ
        (Scf.Loop.for k1_t2_loop k1_t2_ok ⟨⟩ (k1_t2_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1 v2 v5)) Φ) := by
  iintro ⟨Hmw, Hh, Hf, Hi, HO⟩ Hk
  iapply (Scf.wp_for frame (wpE (defs₀ (F := F)) 𝒱₀ (thr d L) none) Set.univ _ _ _ k1_t2_ok ⟨⟩ _
    (fun t _ => iprop(MayWaits (thr d L) (none : HIx 1) O ∗ histP d L (tileHist v5 A3 A4 (wid L) (2 * t)) ∗ Next0 d L q A3 A4 t ∗ Idle1 d L q A3 A4 ∗ ∃ W, owes (thr d L) O W))
    (fun t2 _ => wp_t2 d L q A3 A4 v2 v5 t2 O))
  isplitr [Hk]
  · isplitl [Hmw]; · iexact Hmw
    isplitl [Hh]; · iexact Hh
    isplitl [Hf]; · iapply (show Fly0 d L q A3 A4 0 ⊢ Next0 d L q A3 A4 0 from by unfold Next0; rw [if_pos (by decide)]) $$ Hf
    isplitl [Hi] <;> iassumption
  iintro %acc ⟨-, Hh, Hn, Hi, HO⟩
  iapply Hk
  isplitl [Hh]; · iexact Hh
  isplitl [Hn]; · iapply (show Next0 d L q A3 A4 k1_t2_loop.trips ⊢ Idle0 d L q A3 A4 from by unfold Next0; rw [if_neg (by decide)]) $$ Hn
  isplitl [Hi] <;> iassumption

/-- The histogram zeroed. -/
theorem wp_zero (f : Vec F S16384 .f32) {Φ : PUnit → sProp 𝕄} :
    histP d L f
      ⊢ iprop((histP d L (fun _ => zeroF) -∗ Φ ⟨⟩)
      -∗ wp frame (wpE (defs₀ (F := F)) 𝒱₀ (thr d L) none) Set.univ
        (Scf.Loop.for k1_t1_loop k1_t1_ok ⟨⟩ (k1_t1_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1)) Φ) := by
  iintro Hh Hk
  iapply (Scf.wp_for frame (wpE (defs₀ (F := F)) 𝒱₀ (thr d L) none) Set.univ _ _ _ k1_t1_ok ⟨⟩ _
    (fun t _ => iprop(∃ g : Vec F S16384 .f32, histP d L g ∗ ⌜∀ i : S16384.Idx, (i 0).val < 16 * t → g i = zeroF⌝)) ?_)
  · intro t _
    unfold k1_t1_body
    simp only [wp_bind]
    iintro ⟨%g, Hh, %hg⟩
    iapply (wp_load_rect (defs := defs₀ (F := F)) 𝒱₀ (thr d L) none Set.univ (r := Rect.unit (s := S16384) (k1_off1 t) S16.size (k1_off1_inb t)) (m := histW) (S := Finset.univ) (Finset.subset_univ _)) $$ Hh
    iintro Hh
    iapply (le_wp_ret _ _)
    iapply (wp_store (defs := defs₀ (F := F)) 𝒱₀ (thr d L) none Set.univ (r := Rect.unit (s := S16384) (k1_off1 t) S16.size (k1_off1_inb t)) (m := histW) (S := Finset.univ) (Finset.subset_univ _)) $$ Hh
    iintro Hh
    iapply (le_wp_ret _ _)
    iapply (le_wp_ret _ _)
    iexists _
    isplitl [Hh]; · iexact Hh
    ipureintro
    exact write_zero t g hg
  isplitl [Hh]
  · iexists f
    isplitl [Hh]; · iexact Hh
    ipureintro
    intro i hi
    exact absurd hi (by omega)
  iintro %acc ⟨%g, Hh, %hg⟩
  iapply Hk
  rw [show (fun _ => zeroF : Vec F S16384 .f32) = g from funext fun i => (hg i (show (i 0).val < 16 * 1024 from (i 0).isLt)).symm]
  iexact Hh

end Body

end Cert.Proof.KernelIdeal

end
-- ==== Proof.KernelIdeal.TileBody.lean ====
/- The whole task of one tile: the minimum fetched, the histogram made and written out. -/
module

public import proofs.«01_k».proof.Proof.KernelIdeal.Tile

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V T)
open Idealize.ShloMosaic.Transfers
open Idealize.ShloMosaic.Tactic

variable {F : FTy → Type} [FloatOps F]

local notation "𝕄" => MT nD τ sig (HIx 1) (Elt F) ℕ UU ℕ

/-! ## The small copies: the minimum in, the histogram out -/

/-- The row of the result tile `w` writes: its 16384 entries. -/
def rowOf (w : ℕ) : Finset S524288.Idx := Finset.univ.filter fun i => (i 0).val / 16384 = w

/-- The result array when every tile has written its histogram. -/
def outF (v5 : Vec F S16 .f32) (A B : Vec F S16777216 .f32) : Vec F S524288 .f32 :=
  fun i => tileHist v5 A B ((i 0).val / 16384) 32 (ix 16384 (by decide) (i 0).val)

abbrev outS (L : grid1.Coords) : Memref sig .scVector .hbm S16384 .f32 :=
  (outW).slice (Rect.unit (s := S524288) (k1_off24 L) S16384.size (k1_off24_inb L)) (fun _ => rfl)

omit [FloatOps F] in
theorem off24_eq (L : grid1.Coords) : k1_off24 L 0 = 16384 * wid L :=
  (congrFun (k1_off24_eq L) 0).trans (show 32768 * (L 1).val + 16384 * (L 0).val = _ by unfold wid; omega)

omit [FloatOps F] in
theorem set_outS (L : grid1.Coords) : (outS L).view.set = rowOf (wid L) := by
  ext i
  have h : (outS L).view.set = (Rect.unit (s := S524288) (k1_off24 L) S16384.size (k1_off24_inb L)).set := by
    show ((View.whole (main_v5_scv : Ref sig .scVector)).slice _).set = _
    rw [View.set_slice]; exact Finset.map_refl
  rw [h, Rect.mem_set_unit]
  unfold rowOf
  rw [Finset.mem_filter]
  have ho := off24_eq L
  constructor
  · intro hi
    have h0 : k1_off24 L 0 ≤ (i 0).val ∧ (i 0).val < k1_off24 L 0 + 16384 := hi 0
    exact ⟨Finset.mem_univ _, by omega⟩
  · rintro ⟨-, hi⟩ a
    match a with
    | 0 => exact (show k1_off24 L 0 ≤ (i 0).val ∧ (i 0).val < k1_off24 L 0 + 16384 by omega)

omit [FloatOps F] in
/-- A histogram written over the tile's row, read at an element of it. -/
theorem write_row (L : grid1.Coords) (h : Vec F S16384 .f32) (f : Vec F S524288 .f32) (i : S524288.Idx) (hi : i ∈ (outS L).view.set) :
    (outS L).view.write (Elt F) f ((histW).view.read (Elt F) h) Finset.univ i = h (ix 16384 (by decide) (i 0).val) := by
  obtain ⟨x, -, rfl⟩ := Finset.mem_map.mp hi
  rw [View.write_emb_of_mem _ _ (Finset.mem_univ x)]
  have hx : (x 0).val < 16384 := (x 0).isLt
  have he : ((outS L).view.emb x 0).val = 16384 * wid L + (x 0).val :=
    (show k1_off24 L 0 + 1 * (x 0).val = _ by rw [off24_eq]; omega)
  show h x = h (ix 16384 (by decide) ((outS L).view.emb x 0).val)
  refine congrArg h (funext fun a => ?_)
  match a with
  | 0 => exact Fin.ext (show (x 0).val = ((outS L).view.emb x 0).val % 16384 by omega)

/-- A tile's histogram written over its row is the result array on that row. -/
theorem write_outS (L : grid1.Coords) (v5 : Vec F S16 .f32) (A B : Vec F S16777216 .f32) (f : Vec F S524288 .f32) (i : S524288.Idx) (hi : i ∈ (outS L).view.set) :
    (outS L).view.write (Elt F) f ((histW).view.read (Elt F) (tileHist v5 A B (wid L) 32)) Finset.univ i = outF v5 A B i := by
  rw [write_row L (tileHist v5 A B (wid L) 32) f i hi]
  rw [set_outS] at hi
  unfold outF
  rw [(Finset.mem_filter.mp hi).2]

section Body

variable (d : Dev nD) (L : grid1.Coords) (q : PosShare TreeShare)
  (A2 : Vec F S16 .f32) (A3 A4 : Vec F S16777216 .f32)

abbrev minP (f : Vec F S16 .f32) : sProp 𝕄 := (minW).view.loc (thr d L) ↦{fullShare} f
abbrev semMP : sProp 𝕄 := semVal (thr d L, .dma cc1_scoped0.sem) 0
abbrev semOP : sProp 𝕄 := semVal (thr d L, .dma cc1_scoped1.sem) 0

/-- The minima fetched and read. -/
theorem wp_minFetch (f : Vec F S16 .f32) (O : CellTallies nD τ sig (HIx 1)) {hs hd ht hs' hd'} {hl} {Φ : Vec F S16 .f32 → sProp 𝕄} :
    iprop((mnLoc d ↦{q} A2) ∗ minP d L f ∗ semMP d L ∗ (∃ W, owes (thr d L) O W) ∗ MayWaits (thr d L) (none : HIx 1) O)
      ⊢ iprop((iprop((mnLoc d ↦{q} A2) ∗ minP d L A2 ∗ semMP d L ∗ ∃ W, owes (thr d L) O W) -∗ Φ A2)
      -∗ wp frame (wpE (defs₀ (F := F)) 𝒱₀ (thr d L) none) Set.univ (Prog.lift (.enqueueDma mnW (.here minW) (.dma cc1_scoped0.sem) hs hd ht)) fun _ =>
        wp frame (wpE (defs₀ (F := F)) 𝒱₀ (thr d L) none) Set.univ (Prog.lift (.waitDma2 cc1_scoped0.sem mnW minW hs' hd')) fun _ =>
        wp frame (wpE (defs₀ (F := F)) 𝒱₀ (thr d L) none) Set.univ (Prog.lift (.load minW (Rect.unit (s := S16) ![0] S16.size inb_S16_S16_0).toLoadRect hl)) Φ) := by
  iintro ⟨Hm, Hb, Hv, HO, #Hmw⟩ Hk
  iapply (wp_fetch (d := d) (c := cV L) (s := jV L) mnW minW (show 0 < S16.numel by decide) cc1_scoped0.sem q A2 f A2
    (by rw [show (mnW).view.read (Elt F) A2 = A2 from rfl]; exact View.write_whole_univ _ _ _)) $$ [Hm Hb Hv]
  · isplitl [Hm]; · iexact Hm
    isplitl [Hb] <;> iassumption
  iintro Hp
  iapply (le_wp_ret _ _)
  iapply (wp_await (d := d) (c := cV L) (s := jV L) (sem := cc1_scoped0.sem) (dstw := minW) (N := (minW).view.amount (.dma cc1_scoped0.sem)) rfl
    (D := iprop(minP d L A2 ∗ (mnLoc d ↦{q} A2))) (O := O)) $$ [Hp HO]
  · isplitl [Hp]; · iexact Hp
    isplitl [HO]; · iexact HO
    iexact Hmw
  iintro ⟨⟨Hb, Hm⟩, Hv, HO⟩
  iapply (le_wp_ret _ _)
  iapply (wp_load_rect (defs := defs₀ (F := F)) 𝒱₀ (thr d L) none Set.univ (r := Rect.unit (s := S16) ![0] S16.size inb_S16_S16_0) (m := minW) (S := Finset.univ) (Finset.subset_univ _)) $$ Hb
  iintro Hb
  rw [show ((minW).access (Rect.unit (s := S16) ![0] S16.size inb_S16_S16_0)).read (Elt F) A2 = A2 from by
    funext j
    show A2 _ = A2 j
    congr 1
    funext a
    match a with
    | 0 => exact Fin.ext (show 0 + 1 * (j 0).val = (j 0).val by omega)]
  iapply (le_wp_ret _ _)
  iapply Hk
  isplitl [Hm]; · iexact Hm
  isplitl [Hb]; · iexact Hb
  isplitl [Hv] <;> iassumption

/-- The histogram written out to the tile's row of the result. -/
theorem wp_writeOut (f : Vec F S524288 .f32) (O : CellTallies nD τ sig (HIx 1)) {hs hd ht hs' hd'} {Φ : PUnit → sProp 𝕄} :
    iprop(histP d L (tileHist A2 A3 A4 (wid L) 32) ∗ (outLoc d ↦[rowOf (wid L)]{fullShare} f) ∗ semOP d L ∗ (∃ W, owes (thr d L) O W) ∗ MayWaits (thr d L) (none : HIx 1) O)
      ⊢ iprop((iprop(histP d L (tileHist A2 A3 A4 (wid L) 32) ∗ (outLoc d ↦[rowOf (wid L)]{fullShare} outF A2 A3 A4) ∗ semOP d L ∗ ∃ W, owes (thr d L) O W) -∗ Φ ⟨⟩)
      -∗ wp frame (wpE (defs₀ (F := F)) 𝒱₀ (thr d L) none) Set.univ (Prog.lift (.enqueueDma histW (.here (outS L)) (.dma cc1_scoped1.sem) hs hd ht)) fun _ =>
        wp frame (wpE (defs₀ (F := F)) 𝒱₀ (thr d L) none) Set.univ (Prog.lift (.waitDma2 cc1_scoped1.sem histW (outS L) hs' hd')) Φ) := by
  rw [← set_outS]
  iintro ⟨Hh, Ho, Hv, HO, #Hmw⟩ Hk
  have hset : (histW).view.set = Finset.univ := View.set_whole _
  ihave Hh' := (Entails.of_eq (show (histP d L (tileHist A2 A3 A4 (wid L) 32) : sProp 𝕄)
    = ((histW).view.loc (thr d L) ↦[(histW).view.set]{fullShare} tileHist A2 A3 A4 (wid L) 32) by rw [hset])) $$ Hh
  iapply (wp_dmaLocal countersEmb 𝒱₀ (thr d L) none (none : HIx 1) ((outS L).view.amount (.dma cc1_scoped1.sem)) rfl (View.amount_pos _ _ (show 0 < S16384.numel by decide))
    (Finset.Subset.refl (outS L).view.set) (q := fullShare) (fs := tileHist A2 A3 A4 (wid L) 32) (fd := f)) $$ [Hh' Ho Hv]
  · isplitl [Hh']; · iexact Hh'
    isplitl [Ho] <;> iassumption
  iintro Hf
  iapply (le_wp_ret _ _)
  iapply (wp_await (d := d) (c := cV L) (s := jV L) (sem := cc1_scoped1.sem) (dstw := outS L) (N := (outS L).view.amount (.dma cc1_scoped1.sem)) rfl
    (D := iprop((outLoc d ↦[(outS L).view.set]{fullShare} outF A2 A3 A4) ∗ histP d L (tileHist A2 A3 A4 (wid L) 32))) (O := O)) $$ [Hf HO]
  · isplitl [Hf]
    · unfold Pend
      iexists _
      isplitl [Hf]; · iexact Hf
      iintro ⟨Ho, Hh⟩
      isplitl [Ho]
      · iapply (Entails.of_eq (pointsTo_congr (ℓ := outLoc d) (q := fullShare) (fun i hi => write_outS L A2 A3 A4 f i hi))) $$ Ho
      · iapply (Entails.of_eq (show ((histW).view.loc (thr d L) ↦[(histW).view.set]{fullShare} tileHist A2 A3 A4 (wid L) 32 : sProp 𝕄)
          = histP d L (tileHist A2 A3 A4 (wid L) 32) by rw [hset])) $$ Hh
    isplitl [HO]; · iexact HO
    iexact Hmw
  iintro ⟨⟨Ho, Hh⟩, Hv, HO⟩
  iapply (le_wp_ret _ _)
  iapply Hk
  isplitl [Hh]; · iexact Hh
  isplitl [Ho]; · iexact Ho
  isplitl [Hv] <;> iassumption

/-! ## The tile's own cells and buffers -/

abbrev cMcell (d : Dev nD) (c : Fin τ.nSC) (i : Fin τ.nSub) : GSem nD τ sig := (V d c i, .dma cc1_scoped0.sem)
abbrev cOcell (d : Dev nD) (c : Fin τ.nSC) (i : Fin τ.nSub) : GSem nD τ sig := (V d c i, .dma cc1_scoped1.sem)
abbrev c0cell (d : Dev nD) (c : Fin τ.nSC) (i : Fin τ.nSub) : GSem nD τ sig := (V d c i, .dma cc1_scratch4.sem)
abbrev c1cell (d : Dev nD) (c : Fin τ.nSC) (i : Fin τ.nSub) : GSem nD τ sig := (V d c i, .dma cc1_scratch5.sem)

omit [FloatOps F] in
/-- The subcore's own semaphores: the four copies' cells at zero, and the rest. -/
theorem ownSems0_V :
    (SparseCore.Cfg.ownSems0 (V d (cV L) (jV L)) : sProp 𝕄)
      = iprop(semMP d L ∗ semOP d L ∗ sem0P d L ∗ sem1P d L
          ∗ bigSep (((((SparseCore.Cfg.ownCells (V d (cV L) (jV L))).erase (cMcell d (cV L) (jV L))).erase (cOcell d (cV L) (jV L))).erase (c0cell d (cV L) (jV L))).erase
              (c1cell d (cV L) (jV L))) fun g => semVal g 0) := by
  unfold SparseCore.Cfg.ownSems0
  rw [SparseCore.bigSep_erase' ((SparseCore.Cfg.mem_ownCells (g := cMcell d (cV L) (jV L))).mpr ⟨rfl, by
      show (SemLoc.dma cc1_scoped0.sem : SemLoc sig).isScoped .scVector = true; decide⟩),
    SparseCore.bigSep_erase' (Finset.mem_erase.mpr ⟨by simp [cMcell, cOcell]; decide, (SparseCore.Cfg.mem_ownCells (g := cOcell d (cV L) (jV L))).mpr ⟨rfl, by
      show (SemLoc.dma cc1_scoped1.sem : SemLoc sig).isScoped .scVector = true; decide⟩⟩),
    SparseCore.bigSep_erase' (Finset.mem_erase.mpr ⟨by simp [cOcell, c0cell]; decide, Finset.mem_erase.mpr ⟨by simp [cMcell, c0cell]; decide,
      (SparseCore.Cfg.mem_ownCells (g := c0cell d (cV L) (jV L))).mpr ⟨rfl, by show (SemLoc.dma cc1_scratch4.sem : SemLoc sig).isScoped .scVector = true; decide⟩⟩⟩),
    SparseCore.bigSep_erase' (Finset.mem_erase.mpr ⟨by simp [c0cell, c1cell]; decide, Finset.mem_erase.mpr ⟨by simp [cOcell, c1cell]; decide,
      Finset.mem_erase.mpr ⟨by simp [cMcell, c1cell]; decide, (SparseCore.Cfg.mem_ownCells (g := c1cell d (cV L) (jV L))).mpr ⟨rfl, by
        show (SemLoc.dma cc1_scratch5.sem : SemLoc sig).isScoped .scVector = true; decide⟩⟩⟩⟩)]

omit [FloatOps F] in
/-- The subcore's own buffers: the four scratches, each at some contents, and the rest. -/
theorem ownBufs_V :
    (SparseCore.Cfg.ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((SparseCore.Cfg.ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have hm (b : Ref sig .scVector) (h : ((Proc.scVector (cV L) (jV L)).devRef b) ∈ SparseCore.Cfg.ownRefs (τ := τ) (sig := sig) (.scVector (cV L) (jV L))) := h
  have hne (b b' : Ref sig .scVector) (h : b ≠ b') : (Proc.scVector (cV L) (jV L)).devRef b ≠ (Proc.scVector (cV L) (jV L)).devRef b' :=
    fun e => h (Proc.devRef_injective _ e)
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne cc1_scratch1 cc1_scratch0 (by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide),
      Finset.mem_erase.mpr ⟨hne cc1_scratch2 cc1_scratch0 (by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨hne cc1_scratch3 cc1_scratch2 (by decide),
      Finset.mem_erase.mpr ⟨hne cc1_scratch3 cc1_scratch1 (by decide), Finset.mem_erase.mpr ⟨hne cc1_scratch3 cc1_scratch0 (by decide),
      SparseCore.Cfg.mem_ownRefs_of_owner (p := Proc.scVector (cV L) (jV L)) (b := (Proc.scVector (cV L) (jV L)).devRef cc1_scratch3) rfl⟩⟩⟩)]

/-! ## The task -/

/-- What a tile is handed: the minima and the two images at its read share, and its row of the result; -/
def goP (A5 : Vec F S524288 .f32) : sProp 𝕄 := iprop((mnLoc d ↦{q} A2) ∗ (i0Loc d ↦{q} A3) ∗ (i1Loc d ↦{q} A4) ∗ (outLoc d ↦[rowOf (wid L)]{fullShare} A5))

/-- The task's body up to the write-out: the tile's histogram of the two images. -/
theorem wp_part10 (fm : Vec F S16 .f32) (fh : Vec F S16384 .f32) (O : CellTallies nD τ sig (HIx 1)) :
    iprop(MayWaits (thr d L) (none : HIx 1) O ∗ (mnLoc d ↦{q} A2) ∗ minP d L fm ∗ semMP d L ∗ histP d L fh ∗ Idle0 d L q A3 A4 ∗ Idle1 d L q A3 A4 ∗ ∃ W, owes (thr d L) O W)
      ⊢ wp frame (wpE (defs₀ (F := F)) 𝒱₀ (thr d L) none) Set.univ
        (k1_part10 L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1)
        fun _ => iprop(MayWaits (thr d L) (none : HIx 1) O ∗ (mnLoc d ↦{q} A2) ∗ minP d L A2 ∗ semMP d L ∗ histP d L (tileHist A2 A3 A4 (wid L) 32)
          ∗ Idle0 d L q A3 A4 ∗ Idle1 d L q A3 A4 ∗ ∃ W, owes (thr d L) O W) := by
  rw [k1_part10_eq_skeleton]
  unfold k1_part10_skel
  simp only [dif_pos cond1_eq, dif_neg cond2_ne, wp_bind]
  iintro ⟨#Hmw, Hmn, Hb, Hvm, Hh, H0, H1, HO⟩
  iapply (wp_zero d L fh) $$ Hh
  iintro Hh
  iapply (wp_minFetch d L q A2 fm O) $$ [Hmn Hb Hvm HO]
  · isplitl [Hmn]; · iexact Hmn
    isplitl [Hb]; · iexact Hb
    isplitl [Hvm]; · iexact Hvm
    isplitl [HO]; · iexact HO
    iexact Hmw
  iintro ⟨Hmn, Hb, Hvm, HO⟩
  iapply (wp_start00 d L q A3 A4 0 (by decide) (k1_off2 L) _ (off2_eq L)) $$ H0
  iintro Hf
  iapply (wp_chunks d L q A3 A4 _ A2 O) $$ [Hh Hf H1 HO]
  · isplitr; · iexact Hmw
    isplitl [Hh]; · iexact Hh
    isplitl [Hf]; · iexact Hf
    isplitl [H1] <;> iassumption
  iintro ⟨Hh, H0, H1, HO⟩
  iapply (le_wp_ret _ _)
  isplitr; · iexact Hmw
  isplitl [Hmn]; · iexact Hmn
  isplitl [Hb]; · iexact Hb
  isplitl [Hvm]; · iexact Hvm
  isplitl [Hh]; · iexact Hh
  isplitl [H0]; · iexact H0
  isplitl [H1] <;> iassumption

/-- The task on vector subcore `L 1` of SparseCore `L 0`: its row of the result is the histogram of its chunks. -/
theorem tile_body (A5 : Vec F S524288 .f32) (hF : (K (F := F)).Facts) (O : CellTallies nD τ sig (HIx 1)) (W : Waits sig (HIx 1)) (hO : ∀ g, O g none = 0) :
    iprop(levAts (K (F := F)).L (K (F := F)).lev ∗ emp ∗ goP d L q A2 A3 A4 A5
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_hist_body L i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1)
          fun _ => iprop(goP d L q A2 A3 A4 (outF A2 A3 A4)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  rw [cc1__sc_hist_body_eq_skeleton]
  unfold cc1__sc_hist_body_skel goP
  rw [wp_bind]
  iintro ⟨#Hlv, -, ⟨Hmn, H3, H4, Ho⟩, ⟨⟨%fm, Hm⟩, ⟨%fh, Hh⟩, ⟨%f0, Hb0⟩, ⟨%f1, Hb1⟩, Hbufs⟩, ⟨HvM, HvO, Hv0, Hv1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H3' := (pointsTo_share (PosShare.mem_left_op_right q)).1 $$ H3
  ihave H4' := (pointsTo_share (PosShare.mem_left_op_right q)).1 $$ H4
  icases H3' with ⟨H3l, H3r⟩
  icases H4' with ⟨H4l, H4r⟩
  ihave Hw := (wp_part10 d L q A2 A3 A4 fm fh O) $$ [Hmw Hmn Hm HvM Hh Hb0 H3l H4l Hv0 Hb1 H3r H4r Hv1 HO]
  · isplitl [Hmw]; · iexact Hmw
    isplitl [Hmn]; · iexact Hmn
    isplitl [Hm]; · iexact Hm
    isplitl [HvM]; · iexact HvM
    isplitl [Hh]; · iexact Hh
    isplitl [Hb0 H3l H4l Hv0]
    · unfold Idle0 imgs
      isplitl [Hb0]; · iexists _; iexact Hb0
      isplitl [H3l H4l]; · isplitl [H3l] <;> iassumption
      iexact Hv0
    isplitl [Hb1 H3r H4r Hv1]
    · unfold Idle1 imgs
      isplitl [Hb1]; · iexists _; iexact Hb1
      isplitl [H3r H4r]; · isplitl [H3r] <;> iassumption
      iexact Hv1
    iexists _; iexact HO
  iapply (wp_wand frame (wpE (defs₀ (F := F)) 𝒱₀ (thr d L) none) Set.univ) $$ Hw
  iintro %_ ⟨Hmw, Hmn, Hm, HvM, Hh, H0, H1, HO⟩
  simp only [wp_bind]
  iapply (wp_writeOut d L A2 A3 A4 A5 O) $$ [Hh Ho HvO HO Hmw]
  · isplitl [Hh]; · iexact Hh
    isplitl [Ho]; · iexact Ho
    isplitl [HvO]; · iexact HvO
    isplitl [HO] <;> iassumption
  iintro ⟨Hh, Ho, HvO, ⟨%W', HO⟩⟩
  iapply (le_wp_ret _ _)
  unfold Idle0 Idle1 imgs
  icases H0 with ⟨⟨%g0, Hb0⟩, ⟨H3l, H4l⟩, Hv0⟩
  icases H1 with ⟨⟨%g1, Hb1⟩, ⟨H3r, H4r⟩, Hv1⟩
  isplitl [Hmn H3l H3r H4l H4r Ho]
  · isplitl [Hmn]; · iexact Hmn
    isplitl [H3l H3r]
    · iapply (pointsTo_share (PosShare.mem_left_op_right q)).2
      isplitl [H3l] <;> iassumption
    isplitl [H4l H4r]
    · iapply (pointsTo_share (PosShare.mem_left_op_right q)).2
      isplitl [H4l] <;> iassumption
    iexact Ho
  isplitl [Hm Hh Hb0 Hb1 Hbufs]
  · isplitl [Hm]; · iexists _; iexact Hm
    isplitl [Hh]; · iexists _; iexact Hh
    isplitl [Hb0]; · iexists _; iexact Hb0
    isplitl [Hb1]; · iexists _; iexact Hb1
    iexact Hbufs
  isplitl [HvM HvO Hv0 Hv1 Hsems]
  · isplitl [HvM]; · iexact HvM
    isplitl [HvO]; · iexact HvO
    isplitl [Hv0]; · iexact Hv0
    isplitl [Hv1]; · iexact Hv1
    iexact Hsems
  iexists W'; isplitr
  swap; · iexact HO
  ipureintro; intro p _
  rcases p.2 with _ | r
  · exact .inr (.inl rfl)
  · exact .inr (.inr (congrArg some (Subsingleton.elim r 0)))

end Body

end Cert.Proof.KernelIdeal

end
-- ==== Proof.KernelIdeal.Call.lean ====
/- The SparseCore call: what its handshakes carry, its tiles' obligation, and how its arrays split among the tiles. -/
module

public import proofs.«01_k».proof.Proof.KernelIdeal.TileBody

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V T)
open Idealize.ShloMosaic.Transfers
open Idealize.ShloMosaic.Tactic

variable {F : FTy → Type} [FloatOps F]

local notation "𝕄" => MT nD τ sig (HIx 1) (Elt F) ℕ UU ℕ

/-! ## What the handshakes carry -/

/-- What the SparseCore call's four arrays hold, per device: the minima, the two flat images, and the result's old contents. -/
structure Ins (F : FTy → Type) where
  A2 : Dev nD → Vec F S16 .f32
  A3 : Dev nD → Vec F S16777216 .f32
  A4 : Dev nD → Vec F S16777216 .f32
  A5 : Dev nD → Vec F S524288 .f32

/-- The result array when the call is over. -/
def Ins.out (I : Ins F) (d : Dev nD) : Vec F S524288 .f32 := outF (I.A2 d) (I.A3 d) (I.A4 d)

def coordsV (c : Fin (grid1.bound 0)) (s : Fin (grid1.bound 1)) : grid1.Coords :=
  fun | 0 => c | 1 => s | ⟨_ + 2, h⟩ => absurd h (Nat.not_lt.2 (Nat.le_add_left _ _))

/-- SparseCore `c`'s read share of the inputs, and its tile `i`'s part of it. -/
def qC (c : Fin 2) : PosShare TreeShare := dealOf fullShare Finset.univ c
def qT (c : Fin 2) (i : Fin 16) : PosShare TreeShare := dealOf (qC c) Finset.univ i

/-- The rows of the result SparseCore `c`'s tiles write. -/
def coreSet (c : Fin 2) : Finset S524288.Idx := Finset.univ.biUnion fun i : Fin 16 => rowOf (wid (coordsV c i))

/-- What SparseCore `c` is handed, the result at contents `f`. -/
def coreP (I : Ins F) (d : Dev nD) (c : Fin 2) (f : Vec F S524288 .f32) : sProp 𝕄 :=
  iprop((mnLoc d ↦{qC c} I.A2 d) ∗ (i0Loc d ↦{qC c} I.A3 d) ∗ (i1Loc d ↦{qC c} I.A4 d) ∗ (outLoc d ↦[coreSet c]{fullShare} f))

abbrev tileP (I : Ins F) (d : Dev nD) (c : Fin 2) (i : Fin 16) (f : Vec F S524288 .f32) : sProp 𝕄 :=
  goP d (coordsV c i) (qT c i) (I.A2 d) (I.A3 d) (I.A4 d) f

/-- The call hands each SparseCore a read share of the minima and the images and its rows of the result, each tile a part of the share
    and its own row; the rows come back holding the tiles' histograms. -/
def P (I : Ins F) : (K (F := F)).Pay (nD := nD) (Val := Elt F) (Name := ℕ) (U := UU) where
  st := fun q d c => match q with | 0 => coreP I d (Fin.cast nCore_zero c) (I.A5 d)
  dn := fun q d c => match q with | 0 => coreP I d (Fin.cast nCore_zero c) (I.out d)
  go := fun q d c i => match q with | 0 => tileP I d (Fin.cast nCore_zero c) (Fin.cast nSub_zero i) (I.A5 d)
  td := fun q d c i => match q with | 0 => tileP I d (Fin.cast nCore_zero c) (Fin.cast nSub_zero i) (I.out d)
  x := fun _ _ => iprop(emp)

instance coreP_storable (I : Ins F) (d : Dev nD) (c : Fin 2) (f : Vec F S524288 .f32) : BI.Storable (upEmb : UEmb _ 𝕄) (coreP I d c f) := by
  unfold coreP; infer_instance
instance goP_storable (d : Dev nD) (L : grid1.Coords) (q : PosShare TreeShare) (A2 : Vec F S16 .f32) (A3 A4 : Vec F S16777216 .f32) (f : Vec F S524288 .f32) :
    BI.Storable (upEmb : UEmb _ 𝕄) (goP d L q A2 A3 A4 f) := by
  unfold goP; infer_instance

instance P_storable (I : Ins F) : (P I).IsStorable where
  st q d c := match q with | 0 => coreP_storable I d (Fin.cast nCore_zero c) (I.A5 d)
  dn q d c := match q with | 0 => coreP_storable I d (Fin.cast nCore_zero c) (I.out d)
  go q d c i := match q with | 0 => goP_storable d (coordsV (Fin.cast nCore_zero c) (Fin.cast nSub_zero i)) _ _ _ _ _
  td q d c i := match q with | 0 => goP_storable d (coordsV (Fin.cast nCore_zero c) (Fin.cast nSub_zero i)) _ _ _ _ _

/-! ## The obligation -/

theorem defs₀_vector (c : Fin τ.nSC) (s : Fin τ.nSub) :
    defs₀ (F := F) (.scVector c s) 1 ()
      = SparseCore.onTile hcore1 hsub1 (fun c s => cc1__sc_hist_body (coordsV c s)
          i0W (Memref.isWhole_whole _) i1W (Memref.isWhole_whole _) mnW (Memref.isWhole_whole _) outW (Memref.isWhole_whole _) minW (Memref.isWhole_whole _) histW (Memref.isWhole_whole _) buf0W (Memref.isWhole_whole _) buf1W (Memref.isWhole_whole _) cc1_scratch4 cc1_scratch5 cc1_scoped0 cc1_scoped1) ⟨⟩ c s := rfl

theorem tileObl (I : Ins F) (hF : (K (F := F)).Facts) : (K (F := F)).TileObl (D (F := F)) 𝒱 (P I) v₀ 0 := by
  intro d c i O W hO _ _
  simp only [show (P I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) _ (I.A2 d) (I.A3 d) (I.A4 d) (I.A5 d) hF O W hO

/-! ## The rows split and join -/

omit [FloatOps F] in
theorem wid_coords (c : Fin 2) (i : Fin 16) : wid (coordsV c i) = 2 * i.val + c.val := rfl

omit [FloatOps F] in
theorem rowOf_disjoint {w w' : ℕ} (h : w ≠ w') : Disjoint (rowOf w) (rowOf w') := by
  rw [Finset.disjoint_left]
  intro i hi hi'
  exact h ((Finset.mem_filter.mp hi).2.symm.trans (Finset.mem_filter.mp hi').2)

omit [FloatOps F] in
theorem mem_coreSet {c : Fin 2} {i : S524288.Idx} : i ∈ coreSet c ↔ (i 0).val / 16384 % 2 = c.val := by
  have hi : (i 0).val < 524288 := (i 0).isLt
  unfold coreSet
  rw [Finset.mem_biUnion]
  constructor
  · rintro ⟨t, -, ht⟩
    have := (Finset.mem_filter.mp ht).2
    rw [wid_coords] at this
    have := c.isLt
    omega
  · intro h
    refine ⟨⟨(i 0).val / 16384 / 2, by omega⟩, Finset.mem_univ _, Finset.mem_filter.mpr ⟨Finset.mem_univ _, ?_⟩⟩
    rw [wid_coords]
    show _ = 2 * ((i 0).val / 16384 / 2) + c.val
    omega

omit [FloatOps F] in
theorem coreP_tiles (I : Ins F) (d : Dev nD) (c : Fin 2) (f : Vec F S524288 .f32) :
    (coreP I d c f : sProp 𝕄) = bigSep Finset.univ fun i : Fin 16 => tileP I d c i f := by
  unfold coreP tileP goP coreSet qT
  rw [pointsTo_biUnion Finset.univ (ℓ := outLoc d) (fun i : Fin 16 => rowOf (wid (coordsV c i)))
    (fun i _ j _ h => rowOf_disjoint (by rw [wid_coords, wid_coords]; intro e; exact h (Fin.ext (by omega)))),
    pointsTo_deal (ℓ := mnLoc d) (Finset.univ : Finset (Fin 16)) Finset.univ_nonempty (qC c),
    pointsTo_deal (ℓ := i0Loc d) (Finset.univ : Finset (Fin 16)) Finset.univ_nonempty (qC c),
    pointsTo_deal (ℓ := i1Loc d) (Finset.univ : Finset (Fin 16)) Finset.univ_nonempty (qC c),
    bigSep_sep', bigSep_sep', bigSep_sep']

omit [FloatOps F] in
/-- The call's four arrays, whole, are what the two SparseCores are handed. -/
theorem call_cores (I : Ins F) (d : Dev nD) (f : Vec F S524288 .f32) :
    (iprop((mnLoc d ↦{fullShare} I.A2 d) ∗ (i0Loc d ↦{fullShare} I.A3 d) ∗ (i1Loc d ↦{fullShare} I.A4 d) ∗ (outLoc d ↦{fullShare} f)) : sProp 𝕄)
      = bigSep Finset.univ fun c : Fin 2 => coreP I d c f := by
  unfold coreP qC
  rw [bigSep_sep', bigSep_sep', bigSep_sep',
    ← pointsTo_deal (ℓ := mnLoc d) (Finset.univ : Finset (Fin 2)) Finset.univ_nonempty fullShare,
    ← pointsTo_deal (ℓ := i0Loc d) (Finset.univ : Finset (Fin 2)) Finset.univ_nonempty fullShare,
    ← pointsTo_deal (ℓ := i1Loc d) (Finset.univ : Finset (Fin 2)) Finset.univ_nonempty fullShare,
    ← pointsTo_biUnion Finset.univ (ℓ := outLoc d) coreSet
      (fun c _ c' _ h => by
        rw [Finset.disjoint_left]
        intro i hi hi'
        exact h (Fin.ext ((mem_coreSet.mp hi).symm.trans (mem_coreSet.mp hi')))),
    show (Finset.univ : Finset (Fin 2)).biUnion coreSet = Finset.univ from Finset.eq_univ_iff_forall.mpr fun i =>
      Finset.mem_biUnion.mpr ⟨⟨(i 0).val / 16384 % 2, Nat.mod_lt _ (by decide)⟩, Finset.mem_univ _, mem_coreSet.mpr rfl⟩]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit (I : Ins F) : (K (F := F)).VecSplit' (P I) 0 := by
  intro d c
  show coreP I d (Fin.cast nCore_zero c) (I.A5 d) ⊢ |={Set.univ}=> iprop(
      (bigSep Finset.univ fun i : Fin ((K (F := F)).nSub 0) => tileP I d (Fin.cast nCore_zero c) (Fin.cast nSub_zero i) (I.A5 d))
      ∗ ((bigSep Finset.univ fun i : Fin ((K (F := F)).nSub 0) => tileP I d (Fin.cast nCore_zero c) (Fin.cast nSub_zero i) (I.out d))
          -∗ coreP I d (Fin.cast nCore_zero c) (I.out d)))
  rw [bigSep_tasks (F := F) (fun i => tileP I d (Fin.cast nCore_zero c) i (I.A5 d)),
    bigSep_tasks (F := F) (fun i => tileP I d (Fin.cast nCore_zero c) i (I.out d)), ← coreP_tiles, ← coreP_tiles]
  iintro H; imodintro
  isplitl [H]; · iexact H
  iintro H; iexact H

theorem st0_eq (I : Ins F) (d : Dev nD) :
    (bigSep Finset.univ fun c : Fin ((K (F := F)).nCore 0) => (P I).st 0 d c)
      = iprop((mnLoc d ↦{fullShare} I.A2 d) ∗ (i0Loc d ↦{fullShare} I.A3 d) ∗ (i1Loc d ↦{fullShare} I.A4 d) ∗ (outLoc d ↦{fullShare} I.A5 d)) :=
  (bigSep_cores (F := F) fun c => coreP I d c (I.A5 d)).trans (call_cores I d _).symm
theorem dn0_eq (I : Ins F) (d : Dev nD) :
    (bigSep Finset.univ fun c : Fin ((K (F := F)).nCore 0) => (P I).dn 0 d c)
      = iprop((mnLoc d ↦{fullShare} I.A2 d) ∗ (i0Loc d ↦{fullShare} I.A3 d) ∗ (i1Loc d ↦{fullShare} I.A4 d) ∗ (outLoc d ↦{fullShare} I.out d)) :=
  (bigSep_cores (F := F) fun c => coreP I d c (I.out d)).trans (call_cores I d _).symm

end Cert.Proof.KernelIdeal

end
-- ==== Proof.KernelIdeal.Bodies.lean ====
/- The two TensorCore bodies, executed: the minimum's body leaves the running minimum in its scalar block, the
   divergence's body leaves the loss in its. -/
module

public import proofs.«01_k».proof.Proof.KernelIdeal.Base
public import proofs.«01_k».proof.Proof.Gen.KernelIdeal.Points
public import proofs.«01_k».proof.Proof.Gen.KernelIdeal.Launch
public import Idealize.ShloMosaic.Lib.Pipeline.Value
public import Idealize.ShloMosaic.Lib.Pipeline.Regions

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem Idealize.SL.ProofMode
open scoped Idealize.SL.BI

variable {F : FTy → Type} [FloatOps F]

local notation "𝕄" => MT nD τ sig (SparseCore.Cfg.HIx 1) (Elt F) ℕ UU ℕ

theorem zero2 : (![0, 0] : Fin 2 → Nat) = fun _ => 0 := funext fun a => by fin_cases a <;> rfl

/-- A load of the whole of a two-axis memref reads what the memref holds. -/
theorem read_all {κ : Kind} {sp : Space} {d : Fin 2 → ℕ} {e : EltTy} (m : Memref sig κ sp ⟨2, d⟩ e) (inb) (f) :
    (m.access (Rect.unit (s := ⟨2, d⟩) ![0, 0] d inb)).read (Elt F) f = m.view.read (Elt F) f := by
  have h := View.ld_unit_zero (S := (⟨2, d⟩ : Shape)) zero2 inb (m.view.read (Elt F) f)
  exact h

/-- A store of the whole of a one-word memref leaves the word. -/
theorem read_put (m : Memref sig .tc .smem S1x1 .f32) (inb) (f) (y : F .f32) :
    m.view.read (Elt F) ((m.access (Rect.unit (s := S1x1) ![0, 0] S1x1.size inb)).write (Elt F) f (fun _ => y) Finset.univ) = fun _ => y := by
  have h := View.read_write_univ (v := m.access (Rect.unit (s := S1x1) ![0, 0] S1x1.size inb)) (Val := Elt F) f (fun _ => y)
  rw [read_all] at h
  exact h

/-- The rectangles of the bodies' loads and stores: a whole block of an image, a whole scalar block, the whole of the
    partial histograms. -/
abbrev rX : Rect S256x4096 := Rect.unit (s := S256x4096) ![0, 0] S256x4096.size inb_S256x4096_S256x4096_0_0
abbrev rY : Rect S1x1 := Rect.unit (s := S1x1) ![0, 0] S1x1.size inb_S1x1_S1x1_0_0
abbrev rZ : Rect S512x1024 := Rect.unit (s := S512x1024) ![0, 0] S512x1024.size inb_S512x1024_S512x1024_0_0

/-- The minimum's body at the first grid point: the block's minimum. -/
theorem wp_min_first (c : Dev nD) (i : grid0.Coords) (h1 : k0_cond1 i = 1#1) (h2 : ¬ k0_cond2 i = 1#1)
    (a1 : Memref sig .tc .vmem S256x4096 .f32) (ha1 : a1.IsWhole) (a2 : Memref sig .tc .smem S1x1 .f32) (ha2 : a2.IsWhole)
    (x : Vec F S256x4096 .f32) (y : Vec F S1x1 .f32) :
    iprop(owns (c : Thread nD τ) a1 fullShare x ∗ owns (c : Thread nD τ) a2 fullShare y)
      ⊢ (wp frame (wpE (defs₀ (F := F)) 𝒱₀ (c : Thread nD τ) none) Set.univ (cc0__min_body i a1 ha1 a2 ha2) fun _ =>
          iprop(owns (c : Thread nD τ) a1 fullShare x ∗ owns (c : Thread nD τ) a2 fullShare (fun _ => k0_pay1 x)) : sProp 𝕄) := by
  rw [cc0__min_body_eq_skeleton]; unfold cc0__min_body_skel
  simp only [dif_pos h1, dif_neg h2, smemLoad, smemLoadElt, Prog.lift, Prog.bind_op, Prog.bind_ret, Prog.pure_eq_ret, Prog.bind_assoc]
  unfold owns
  rw [ha1.set_eq_univ, ha2.set_eq_univ]
  iintro ⟨⟨%f, %hf, Hx⟩, ⟨%g, %hg, Hy⟩⟩
  iapply (wp_load_rect 𝒱₀ (c : Thread nD τ) none Set.univ (m := a1) (r := rX) (S := Finset.univ) (f := f) (Finset.subset_univ _)) $$ Hx; iintro Hx
  iapply (wp_load_rect 𝒱₀ (c : Thread nD τ) none Set.univ (m := a2) (r := rY) (S := Finset.univ) (f := g) (Finset.subset_univ _)) $$ Hy; iintro Hy
  iapply (wp_store 𝒱₀ (c : Thread nD τ) none Set.univ (m := a2) (r := rY) (S := Finset.univ) (f := g) (Mk := Finset.univ) (Finset.subset_univ _)) $$ Hy; iintro Hy
  iapply (le_wp_ret _ _)
  isplitl [Hx]
  · iexists f; isplitr; · ipureintro; exact hf
    iexact Hx
  iexists _; isplitr; swap; · iexact Hy
  ipureintro
  rw [read_put, read_all, hf]

/-- The minimum's body at a later grid point: the smaller of the block's minimum and the word found. -/
theorem wp_min_later (c : Dev nD) (i : grid0.Coords) (h1 : ¬ k0_cond1 i = 1#1) (h2 : k0_cond2 i = 1#1)
    (a1 : Memref sig .tc .vmem S256x4096 .f32) (ha1 : a1.IsWhole) (a2 : Memref sig .tc .smem S1x1 .f32) (ha2 : a2.IsWhole)
    (x : Vec F S256x4096 .f32) (y : F .f32) :
    iprop(owns (c : Thread nD τ) a1 fullShare x ∗ owns (c : Thread nD τ) a2 fullShare (fun _ => y))
      ⊢ (wp frame (wpE (defs₀ (F := F)) 𝒱₀ (c : Thread nD τ) none) Set.univ (cc0__min_body i a1 ha1 a2 ha2) fun _ =>
          iprop(owns (c : Thread nD τ) a1 fullShare x ∗ owns (c : Thread nD τ) a2 fullShare (fun _ => k0_pay2 x y)) : sProp 𝕄) := by
  rw [cc0__min_body_eq_skeleton]; unfold cc0__min_body_skel
  simp only [dif_neg h1, dif_pos h2, smemLoad, smemLoadElt, Prog.lift, Prog.bind_op, Prog.bind_ret, Prog.pure_eq_ret, Prog.bind_assoc]
  unfold owns
  rw [ha1.set_eq_univ, ha2.set_eq_univ]
  iintro ⟨⟨%f, %hf, Hx⟩, ⟨%g, %hg, Hy⟩⟩
  iapply (wp_load_rect 𝒱₀ (c : Thread nD τ) none Set.univ (m := a1) (r := rX) (S := Finset.univ) (f := f) (Finset.subset_univ _)) $$ Hx; iintro Hx
  iapply (wp_load_rect 𝒱₀ (c : Thread nD τ) none Set.univ (m := a2) (r := rY) (S := Finset.univ) (f := g) (Finset.subset_univ _)) $$ Hy; iintro Hy
  iapply (wp_load_rect 𝒱₀ (c : Thread nD τ) none Set.univ (m := a2) (r := rY) (S := Finset.univ) (f := g) (Finset.subset_univ _)) $$ Hy; iintro Hy
  iapply (wp_store 𝒱₀ (c : Thread nD τ) none Set.univ (m := a2) (r := rY) (S := Finset.univ) (f := g) (Mk := Finset.univ) (Finset.subset_univ _)) $$ Hy; iintro Hy
  iapply (le_wp_ret _ _)
  isplitl [Hx]
  · iexists f; isplitr; · ipureintro; exact hf
    iexact Hx
  iexists _; isplitr; swap; · iexact Hy
  ipureintro
  rw [read_put, read_all, read_all, hf, hg]

/-- The divergence's body: the loss of the partial histograms. -/
theorem wp_kl (c : Dev nD) (a1 : Memref sig .tc .vmem S512x1024 .f32) (ha1 : a1.IsWhole) (a2 : Memref sig .tc .smem S1x1 .f32) (ha2 : a2.IsWhole)
    (x : Vec F S512x1024 .f32) (y : Vec F S1x1 .f32) :
    iprop(owns (c : Thread nD τ) a1 fullShare x ∗ owns (c : Thread nD τ) a2 fullShare y)
      ⊢ (wp frame (wpE (defs₀ (F := F)) 𝒱₀ (c : Thread nD τ) none) Set.univ (cc2__kl_body a1 ha1 a2 ha2) fun _ =>
          iprop(owns (c : Thread nD τ) a1 fullShare x ∗ owns (c : Thread nD τ) a2 fullShare (fun _ => k2_pay1 x)) : sProp 𝕄) := by
  rw [cc2__kl_body_eq_skeleton]; unfold cc2__kl_body_skel
  simp only [smemLoad, smemLoadElt, Prog.lift, Prog.bind_op, Prog.bind_ret, Prog.pure_eq_ret, Prog.bind_assoc]
  unfold owns
  rw [ha1.set_eq_univ, ha2.set_eq_univ]
  iintro ⟨⟨%f, %hf, Hx⟩, ⟨%g, %hg, Hy⟩⟩
  iapply (wp_load_rect 𝒱₀ (c : Thread nD τ) none Set.univ (m := a1) (r := rZ) (S := Finset.univ) (f := f) (Finset.subset_univ _)) $$ Hx; iintro Hx
  iapply (wp_load_rect 𝒱₀ (c : Thread nD τ) none Set.univ (m := a2) (r := rY) (S := Finset.univ) (f := g) (Finset.subset_univ _)) $$ Hy; iintro Hy
  iapply (wp_store 𝒱₀ (c : Thread nD τ) none Set.univ (m := a2) (r := rY) (S := Finset.univ) (f := g) (Mk := Finset.univ) (Finset.subset_univ _)) $$ Hy; iintro Hy
  iapply (le_wp_ret _ _)
  isplitl [Hx]
  · iexists f; isplitr; · ipureintro; exact hf
    iexact Hx
  iexists _; isplitr; swap; · iexact Hy
  ipureintro
  rw [read_put, read_all, hf]

end Cert.Proof.KernelIdeal

end
-- ==== Proof.KernelIdeal.Regions.lean ====
/- The two TensorCore regions of the program as segments of its @main, which also launches the SparseCore kernel: what
   each leaves in its arrays, and that the core's record of waits stays below what it still owes the SparseCores. -/
module

public import proofs.«01_k».proof.Proof.KernelIdeal.Bodies
public import Idealize.ShloMosaic.Lib.Pipeline.RegionArrays

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open Idealize.SL.BI.BIBase Idealize.SL.BI.Laws Idealize.SL.Sem Idealize.SL.ProofMode
open scoped Idealize.SL.BI
open Idealize.ShloMosaic.SparseCore.Cfg (HIx)

variable {F : FTy → Type} [FloatOps F]

local notation "𝕄" => MT nD τ sig (HIx 1) (Elt F) ℕ UU ℕ

/-- What the two regions' arrays hold as each is entered: the image and the minimum's word, the partial histograms
    and the loss's word. -/
structure RIns (F : FTy → Type) where
  img : Dev nD → Vec F S4096x4096 .f32
  mn : Dev nD → Vec F S1x1 .f32
  part : Dev nD → Vec F S512x1024 .f32
  loss : Dev nD → Vec F S1x1 .f32

/-- The block of the image that grid point `t` reads. -/
def blockOf (A : Vec F S4096x4096 .f32) (t : Fin cfg0.N) : Vec F S256x4096 .f32 := ((cfg0.win 0).blk t).view.read (Elt F) A

/-- The minimum of the image's blocks up to grid point `n`. -/
def runMin (A : Vec F S4096x4096 .f32) : (n : ℕ) → n < cfg0.N → F .f32
  | 0, h => k0_pay1 (blockOf A ⟨0, h⟩)
  | n + 1, h => k0_pay2 (blockOf A ⟨n + 1, h⟩) (runMin A n (Nat.lt_of_succ_lt h))

/-- The minimum over the whole image, as the region leaves it. -/
def minOf (A : Vec F S4096x4096 .f32) : F .f32 := runMin A 15 (by rw [show cfg0.N = 16 from N_0]; decide)

/-- The waits a TensorCore may have recorded before SparseCore call `n`. -/
def recBelow (c : Dev nD) (n : ℕ) : Set (SemLoc sig × HIx 1) := {p | (K (F := F)).lev (SparseCore.T c, p.1) p.2 ≤ 8 * n}

/-- The proof data of the minimum's region. -/
def dat0 (R : RIns F) (c : Dev nD) : Pipeline.Dat τ (Elt F) (HIx 1) ℕ UU ℕ cfg0 c where
  A := fun | 0 => R.img c | 1 => R.mn c | ⟨_ + 2, h⟩ => absurd h (Nat.not_lt.2 (Nat.le_add_left _ _))
  after := fun | 0 => fun t => blockOf (R.img c) t | 1 => fun t => fun _ => runMin (R.img c) t.val t.isLt | ⟨_ + 2, h⟩ => absurd h (Nat.not_lt.2 (Nat.le_add_left _ _))
  Φ _ := Pipeline.scopedRest spec0 c
  q _ := fullShare
  owed _ := (K (F := F)).Otc c 0
  recorded _ := recBelow (F := F) c 0

/-- The proof data of the divergence's region. -/
def dat2 (R : RIns F) (c : Dev nD) : Pipeline.Dat τ (Elt F) (HIx 1) ℕ UU ℕ cfg2 c where
  A := fun | 0 => R.part c | 1 => R.loss c | ⟨_ + 2, h⟩ => absurd h (Nat.not_lt.2 (Nat.le_add_left _ _))
  after := fun | 0 => fun _ => R.part c | 1 => fun _ _ => k2_pay1 (R.part c) | ⟨_ + 2, h⟩ => absurd h (Nat.not_lt.2 (Nat.le_add_left _ _))
  Φ _ := Pipeline.scopedRest spec2 c
  q _ := fullShare
  owed _ := (K (F := F)).Otc c 1
  recorded _ := recBelow (F := F) c 1

abbrev adm : (p : Fin 2) → (pcfgs (F := F) p).Adm := fun p => (cfgs p).toPCfg_adm
def pdats (R : RIns F) : (p : Fin 2) → (c : Dev nD) → Pipeline.Dat τ (Elt F) (HIx 1) ℕ UU ℕ (Pipeline.pin (pcfgs (F := F)) adm p) c
  | 0 => dat0 R
  | 1 => dat2 R

theorem cond1_iff0 : ∀ t : Fin grid0.N, k0_cond1 (grid0.coords t) = 1#1 ↔ t.val = 0 := by decide +kernel
theorem cond2_iff0 : ∀ t : Fin grid0.N, k0_cond2 (grid0.coords t) = 1#1 ↔ t.val ≠ 0 := by decide +kernel
theorem live0_1 : ∀ i : grid0.Coords, cfg0.idle 1 i = false := by decide +kernel

variable (R : RIns F)

/-- The image's staging buffer holds the grid point's block. -/
theorem before0_0 (c : Dev nD) (t : Fin cfg0.N) (d) : (dat0 R c).before 0 t d = blockOf (R.img c) t := by
  rw [(dat0 R c).before_fetched 0 t (fetch0_0 t)]
  unfold Pipeline.Dat.fetched Pipeline.Dat.blockOf; dsimp only [dat0]; rfl

/-- The minimum's word holds the running minimum of the points before. -/
theorem before0_1 (c : Dev nD) (n : ℕ) (h : n + 1 < cfg0.N) (d) :
    (dat0 R c).before 1 ⟨n + 1, h⟩ d = fun _ => runMin (R.img c) n (Nat.lt_of_succ_lt h) := by
  rw [(dat0 R c).before_out_kept 1 rfl ⟨n + 1, h⟩ (Nat.succ_ne_zero n) (by
    have h16 : n + 1 < 16 := h.trans_eq N_0
    have := (flush0_1 ⟨n, Nat.lt_of_succ_lt h⟩).not.mpr (by show ¬ n % 16 = 15; omega)
    simpa using this) live0_1 (fun _ _ => rfl) d]
  dsimp only [dat0]; rfl

/-- The minimum's body at every grid point. -/
theorem body0 (c : Dev nD) : Pipeline.BodyObligation (dat0 R c) defs₀ 𝒱₀ (none : HIx 1) Set.univ := fun t => by
  rw [bigSep_W0, bigSep_W0]
  dsimp only
  rw [show idle0 1 (grid0.coords t) = false from live0_1 _]
  dsimp only
  show iprop(Pipeline.scopedRest spec0 c ∗ (dat0 R c).owesAt (none : HIx 1) 0 ∗ (∃ d, owns (c : Thread nD τ) (st0_0 t) fullShare ((dat0 R c).before 0 t d)) ∗ ∃ d, owns (c : Thread nD τ) (st0_1 t) fullShare ((dat0 R c).before 1 t d))
    ⊢ wp frame (wpE (defs₀ (F := F)) 𝒱₀ (c : Thread nD τ) none) Set.univ (bodyAt0 t) fun _ =>
      iprop(Pipeline.scopedRest spec0 c ∗ (dat0 R c).owesAt (none : HIx 1) 0 ∗ owns (c : Thread nD τ) (st0_0 t) fullShare (blockOf (R.img c) t) ∗ owns (c : Thread nD τ) (st0_1 t) fullShare (fun _ => runMin (R.img c) t.val t.isLt))
  obtain ⟨n, hn⟩ := t
  cases n with
  | zero =>
    iintro ⟨HΦ, HO, ⟨%d0, Hx⟩, ⟨%d1, Hy⟩⟩
    rw [before0_0]
    ihave Hw := (wp_min_first c (grid0.coords ⟨0, hn⟩) ((cond1_iff0 ⟨0, hn⟩).mpr rfl) ((cond2_iff0 ⟨0, hn⟩).not.mpr (fun h => h rfl))
      (st0_0 ⟨0, hn⟩) (hstage0_0 ((cfg0.slots ⟨0, hn⟩ 0).cast nbuf0_0)) (st0_1 ⟨0, hn⟩) (hstage0_1 ((cfg0.slots ⟨0, hn⟩ 1).cast nbuf0_1)) (blockOf (R.img c) ⟨0, hn⟩) _) $$ [Hx Hy]
    · isplitl [Hx] <;> iassumption
    iapply (wp_wand frame (wpE (defs₀ (F := F)) 𝒱₀ (c : Thread nD τ) none) Set.univ) $$ Hw
    iintro %_ ⟨Hx, Hy⟩
    isplitl [HΦ]; · iexact HΦ
    isplitl [HO]; · iexact HO
    isplitl [Hx]; · iexact Hx
    iexact Hy
  | succ n =>
    iintro ⟨HΦ, HO, ⟨%d0, Hx⟩, ⟨%d1, Hy⟩⟩
    rw [before0_0, before0_1]
    ihave Hw := (wp_min_later c (grid0.coords ⟨n + 1, hn⟩) ((cond1_iff0 ⟨n + 1, hn⟩).not.mpr (Nat.succ_ne_zero n)) ((cond2_iff0 ⟨n + 1, hn⟩).mpr (Nat.succ_ne_zero n))
      (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (blockOf (R.img c) ⟨n + 1, hn⟩) _) $$ [Hx Hy]
    · isplitl [Hx] <;> iassumption
    iapply (wp_wand frame (wpE (defs₀ (F := F)) 𝒱₀ (c : Thread nD τ) none) Set.univ) $$ Hw
    iintro %_ ⟨Hx, Hy⟩
    isplitl [HΦ]; · iexact HΦ
    isplitl [HO]; · iexact HO
    isplitl [Hx]; · iexact Hx
    iexact Hy

/-- The partial histograms' staging buffer holds them whole. -/
theorem before2_0 (c : Dev nD) (t : Fin cfg2.N) (d) : (dat2 R c).before 0 t d = R.part c := by
  rw [(dat2 R c).before_fetched 0 t (fetch2_0 t)]
  unfold Pipeline.Dat.fetched Pipeline.Dat.blockOf; dsimp only [dat2]
  funext j
  show R.part c (((cfg2.win 0).blk t).view.emb j) = R.part c j
  congr 1
  funext a; apply Fin.ext
  match a with
  | ⟨0, _⟩ => show 0 * 512 + 1 * (j 0).val = (j 0).val; omega
  | ⟨1, _⟩ => show 0 * 1024 + 1 * (j 1).val = (j 1).val; omega

/-- The divergence's body at its one point. -/
theorem body2 (c : Dev nD) : Pipeline.BodyObligation (dat2 R c) defs₀ 𝒱₀ (none : HIx 1) Set.univ := fun t => by
  rw [bigSep_W2, bigSep_W2]
  show iprop(Pipeline.scopedRest spec2 c ∗ (dat2 R c).owesAt (none : HIx 1) 0 ∗ (∃ d, owns (c : Thread nD τ) (st2_0 t) fullShare ((dat2 R c).before 0 t d)) ∗ ∃ d, owns (c : Thread nD τ) (st2_1 t) fullShare ((dat2 R c).before 1 t d))
    ⊢ wp frame (wpE (defs₀ (F := F)) 𝒱₀ (c : Thread nD τ) none) Set.univ (bodyAt2 t) fun _ =>
      iprop(Pipeline.scopedRest spec2 c ∗ (dat2 R c).owesAt (none : HIx 1) 0 ∗ owns (c : Thread nD τ) (st2_0 t) fullShare (R.part c) ∗ owns (c : Thread nD τ) (st2_1 t) fullShare (fun _ => k2_pay1 (R.part c)))
  iintro ⟨HΦ, HO, ⟨%d0, Hx⟩, ⟨%d1, Hy⟩⟩
  rw [before2_0]
  ihave Hw := (wp_kl c (st2_0 t) (hstage2_0 0) (st2_1 t) (hstage2_1 0) (R.part c) _) $$ [Hx Hy]
  · isplitl [Hx] <;> iassumption
  iapply (wp_wand frame (wpE (defs₀ (F := F)) 𝒱₀ (c : Thread nD τ) none) Set.univ) $$ Hw
  iintro %_ ⟨Hx, Hy⟩
  isplitl [HΦ]; · iexact HΦ
  isplitl [HO]; · iexact HO
  isplitl [Hx]; · iexact Hx
  iexact Hy

/-- What the TensorCore owes before SparseCore call `n`, its recorded waits below it. -/
def tcOwes (c : Dev nD) (n : ℕ) : sProp 𝕄 :=
  iprop(∃ W, ⌜(K (F := F)).WBelow (SparseCore.T c) W (8 * n)⌝ ∗ owes (SparseCore.T c) ((K (F := F)).Otc c n) W)

/-- The region of the pallas_call `p`, entered before SparseCore call `n`. -/
def region (p : Fin 2) (n : ℕ) (kit : Pipeline.LaunchFacts (nD := nD) (τ := τ) cfgs p)
    (hbody : ∀ c, Pipeline.BodyObligation (pdats R p c) defs₀ 𝒱₀ (none : HIx 1) Set.univ)
    (howed : ∀ c t, (pdats R p c).owed t = (K (F := F)).Otc c n) (hrec : ∀ c t, (pdats R p c).recorded t = recBelow (F := F) c n)
    (hΦ : ∀ c t, (pdats R p c).Φ t = Pipeline.scopedRest (pcfgs (F := F) p).spec c) :
    Pipeline.RegionSeg (pcfgs (F := F)) adm (pdats R) (none : HIx 1) defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_of_cut (Pipeline.pin (pcfgs (F := F)) adm) (pdats R) (none : HIx 1) p c 0 ((K (F := F)).Otc c n) (howed c)
    (fun _ _ => Finset.mem_univ _) (fun _ _ => le_rfl)
    (fun g i h => ⟨Finset.mem_univ _, lt_of_lt_of_le (Nat.succ_pos _) (SparseCore.Cfg.lev_of_Otc_pos h)⟩)
  pre c := iprop((pdats R p c).arrays ((pdats R p c).arrAt · 0) ∗ tcOwes c n)
  post c := iprop((pdats R p c).arrays ((pdats R p c).arrAt · (Pipeline.pin (pcfgs (F := F)) adm p).N) ∗ tcOwes c n)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.Dat.owesAt Pipeline.owesWithin Pipeline.Dat.bound tcOwes
      rw [howed c 0, hrec c]
      icases HO with ⟨%W, %hW, HO⟩; iexists W; isplitr; · ipureintro; exact fun q hq => Or.inl (hW q hq)
      iexact HO
    isplitr <;> iempintro
  hin c := by
    rw [hΦ c 0]
    iintro ⟨-, -, Hr⟩
    iexact Hr
  hout c := by
    rw [hΦ c (Fin.last _), Pipeline.ownSems0_none]
    iintro Hr
    isplitr; · iempintro
    isplitr; · iempintro
    iexact Hr
  hexit c := by
    unfold Pipeline.Dat.owesAt Pipeline.owesWithin Pipeline.Dat.bound tcOwes
    rw [howed c (Fin.last _), hrec c]
    iintro ⟨Ha, ⟨%W, %hW, HO⟩, -, -⟩
    imodintro
    isplitl [Ha]; · iexact Ha
    iexists W; isplitr
    · ipureintro
      intro q hq
      rcases hW hq with h | ⟨w, s, rfl⟩
      · exact h
      · exact Nat.zero_le _
    iexact HO

/-- The minimum's region. -/
def region0 := region R 0 0 launch0 (body0 R) (fun _ _ => rfl) (fun _ _ => rfl) (fun _ _ => rfl)
/-- The divergence's region. -/
def region2 := region R 1 1 launch2 (body2 R) (fun _ _ => rfl) (fun _ _ => rfl) (fun _ _ => rfl)

/-- The one index of a one-word block. -/
def word11 : S1x1.Idx := fun a => ⟨0, by revert a; decide⟩

theorem eq_word11 (i : S1x1.Idx) : i = word11 := funext fun a => by
  match a with
  | ⟨0, _⟩ => exact Subsingleton.elim (α := Fin 1) _ _
  | ⟨1, _⟩ => exact Subsingleton.elim (α := Fin 1) _ _

/-- The minimum's array after the region. -/
theorem final0 (c : Dev nD) : (dat0 R c).arrAt 1 cfg0.N = fun _ => minOf (R.img c) :=
  (dat0 R c).arrAt_eq_of_cover 1 (fun _ => minOf (R.img c))
    (fun t ht => by
      have h16 := (flush0_1 t).mp ht
      have hN : t.val < 16 := t.isLt.trans_eq N_0
      obtain rfl : t = t0_15 := Fin.ext (by show t.val = 15; omega)
      rfl)
    (fun i => ⟨t0_15, (flush0_1 _).mpr rfl, by
      have h := ((cfg0.win 1).blk t0_15).view.emb_mem_set word11
      exact ((eq_word11 i).trans (eq_word11 _).symm) ▸ h⟩)

/-- The loss's array after the region. -/
theorem final2 (c : Dev nD) : (dat2 R c).arrAt 1 cfg2.N = fun _ => k2_pay1 (R.part c) :=
  (dat2 R c).arrAt_eq_of_cover 1 (fun _ => k2_pay1 (R.part c))
    (fun t ht => rfl)
    (fun i => ⟨t2_0, flush2_1 _, by
      have h := ((cfg2.win 1).blk t2_0).view.emb_mem_set word11
      exact ((eq_word11 i).trans (eq_word11 _).symm) ▸ h⟩)

/-- What the minimum's region is entered from, -/
theorem pre0_eq (c : Dev nD) : ((region0 R).pre c : sProp 𝕄)
    = iprop((((c : Thread nD τ).loc main_arg0 ↦{fullShare} R.img c) ∗ ((c : Thread nD τ).loc main_v0 ↦{fullShare} R.mn c)) ∗ tcOwes c 0) := by
  show iprop((pdats R 0 c).arrays ((pdats R 0 c).arrAt · 0) ∗ tcOwes c 0) = _
  rw [Pipeline.arrays_eq (Pipeline.pin (pcfgs (F := F)) adm) (pdats R) 0 c arr_whole0 (fun w => by fin_cases w <;> rfl)]
  rw [bigSep_W0]
  rfl
/-- and what it leaves. -/
theorem post0_eq (c : Dev nD) : ((region0 R).post c : sProp 𝕄)
    = iprop((((c : Thread nD τ).loc main_arg0 ↦{fullShare} R.img c) ∗ ((c : Thread nD τ).loc main_v0 ↦{fullShare} fun _ => minOf (R.img c))) ∗ tcOwes c 0) := by
  show iprop((pdats R 0 c).arrays ((pdats R 0 c).arrAt · cfg0.N) ∗ tcOwes c 0) = _
  rw [Pipeline.arrays_eq (Pipeline.pin (pcfgs (F := F)) adm) (pdats R) 0 c arr_whole0 (fun w => by fin_cases w <;> rfl)]
  rw [bigSep_W0, ← final0 R c, show R.img c = (dat0 R c).arrAt 0 cfg0.N from ((dat0 R c).arrAt_in 0 rfl _).symm]
  rfl
/-- What the divergence's region is entered from, -/
theorem pre2_eq (c : Dev nD) : ((region2 R).pre c : sProp 𝕄)
    = iprop((((c : Thread nD τ).loc main_v6 ↦{fullShare} R.part c) ∗ ((c : Thread nD τ).loc main_v7 ↦{fullShare} R.loss c)) ∗ tcOwes c 1) := by
  show iprop((pdats R 1 c).arrays ((pdats R 1 c).arrAt · 0) ∗ tcOwes c 1) = _
  rw [Pipeline.arrays_eq (Pipeline.pin (pcfgs (F := F)) adm) (pdats R) 1 c arr_whole2 (fun w => by fin_cases w <;> rfl)]
  rw [bigSep_W2]
  rfl
/-- and what it leaves. -/
theorem post2_eq (c : Dev nD) : ((region2 R).post c : sProp 𝕄)
    = iprop((((c : Thread nD τ).loc main_v6 ↦{fullShare} R.part c) ∗ ((c : Thread nD τ).loc main_v7 ↦{fullShare} fun _ => k2_pay1 (R.part c))) ∗ tcOwes c 1) := by
  show iprop((pdats R 1 c).arrays ((pdats R 1 c).arrAt · cfg2.N) ∗ tcOwes c 1) = _
  rw [Pipeline.arrays_eq (Pipeline.pin (pcfgs (F := F)) adm) (pdats R) 1 c arr_whole2 (fun w => by fin_cases w <;> rfl)]
  rw [bigSep_W2, ← final2 R c, show R.part c = (dat2 R c).arrAt 0 cfg2.N from ((dat2 R c).arrAt_in 0 rfl _).symm]
  rfl

end Cert.Proof.KernelIdeal

end
-- ==== Proof.KernelIdeal.Main.lean ====
/- @main on the TensorCore — the minimum's region, the host's reshapes and broadcast, the SparseCore call, the divergence's
   region — and the whole program's run: the loss it leaves, the images unchanged. -/
module

public import proofs.«01_k».proof.Proof.KernelIdeal.Call
public import proofs.«01_k».proof.Proof.KernelIdeal.Regions

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

open Idealize.ShloMosaic.Rounds

variable {F : FTy → Type} [FloatOps F]

local notation "𝕄" => MT nD τ sig (HIx 1) (Elt F) ℕ UU ℕ

/-! ## What the arrays hold along @main -/

section Values

variable (m : (ℓ : Loc nD τ sig) → Buf (Elt F) ℓ) (d : Dev nD)

/-- The two images at the launch. -/
def img0 : Vec F S4096x4096 .f32 := m ((SparseCore.T d).loc main_arg0)
def img1 : Vec F S4096x4096 .f32 := m ((SparseCore.T d).loc main_arg1)
/-- The first image's minimum as the scalar and as the sixteen lanes the SparseCore call reads. -/
def minS : Vec F S_ .f32 := shapeCast S_ (fun _ => minOf (img0 m d) : Vec F S1x1 .f32) shapeCasts_S1x1_S_
def min16 : Vec F S16 .f32 := broadcastInDim S16 ![] bcast_S_S16 (minS m d)
/-- The images flattened. -/
def flat0 : Vec F S16777216 .f32 := shapeCast S16777216 (img0 m d) shapeCasts_S4096x4096_S16777216
def flat1 : Vec F S16777216 .f32 := shapeCast S16777216 (img1 m d) shapeCasts_S4096x4096_S16777216

/-- What the SparseCore call is entered with. -/
def ins : Ins F := ⟨min16 m, flat0 m, flat1 m, fun d => m ((SparseCore.T d).loc main_v5)⟩

/-- The partial histograms as the matrix the divergence reads. -/
def partM : Vec F S512x1024 .f32 := shapeCast S512x1024 ((ins m).out d) shapeCasts_S524288_S512x1024
/-- The loss. -/
def lossS : Vec F S_ .f32 := shapeCast S_ (fun _ => k2_pay1 (partM m d) : Vec F S1x1 .f32) shapeCasts_S1x1_S_

/-- What the two regions are entered with. -/
def rins : RIns F := ⟨img0 m, fun d => m ((SparseCore.T d).loc main_v0), partM m, fun d => m ((SparseCore.T d).loc main_v7)⟩

end Values

/-! ## A host operation of one operand -/

/-- A host operation that reads the buffer `x` and writes the buffer `y`, run from the two whole. -/
theorem wp_host (d : Dev nD) {op : HloOp τ sig (Elt F)} (x y : Ref sig .tc) (hxy : x ≠ y)
    (hb : op.bufs = {Proc.devRef .tc x, Proc.devRef .tc y}) (hw : op.writes = {Proc.devRef .tc y}) (hf : op.fresh = ∅)
    (V₀ : Valuation τ sig (Elt F)) (A : x.ty.Contents (Elt F)) (B C : y.ty.Contents (Elt F))
    (hC : ∀ W : Valuation τ sig (Elt F), W (Proc.devRef .tc x) = A → op.result W (Proc.devRef .tc y) = C) {Q : PUnit → sProp 𝕄} :
    iprop(boundary (SparseCore.T d) ∗ (((SparseCore.T d).loc x) ↦{fullShare} A) ∗ (((SparseCore.T d).loc y) ↦{fullShare} B))
      ⊢ iprop(((boundary (SparseCore.T d) ∗ (((SparseCore.T d).loc x) ↦{fullShare} A) ∗ (((SparseCore.T d).loc y) ↦{fullShare} C)) -∗ Q ⟨⟩)
        -∗ wp frame (wpE ((K (F := F)).defs (D (F := F))) 𝒱 (SparseCore.T d) none) Set.univ (hlo rfl op fun _ => .ret ⟨⟩) Q) := by
  have hne : Proc.devRef (τ := τ) .tc x ≠ Proc.devRef .tc y := StableHlo.devRef_ne_of_ne hxy
  let W : Valuation τ sig (Elt F) := Function.update (Function.update V₀ (Proc.devRef .tc x) A) (Proc.devRef .tc y) B
  have hWx : W (Proc.devRef .tc x) = A := (Function.update_of_ne hne _ _).trans (Function.update_self _ _ _)
  have hWy : W (Proc.devRef .tc y) = B := Function.update_self _ _ _
  have hRx : op.result W (Proc.devRef .tc x) = A :=
    (op.result_of_not_mem W (by rw [hw, Finset.mem_singleton]; exact hne)).trans hWx
  have hsplit : ∀ V : Valuation τ sig (Elt F), (bigSep op.bufs (fun b => ((SparseCore.T d : Thread nD τ).1, b) ↦{fullShare} V b) : sProp 𝕄)
      = iprop((((SparseCore.T d).loc x) ↦{fullShare} V (Proc.devRef .tc x)) ∗ (((SparseCore.T d).loc y) ↦{fullShare} V (Proc.devRef .tc y))) := fun V => by
    rw [hb, SparseCore.bigSep_insert' (by rw [Finset.mem_singleton]; exact hne), bigSep_singleton]
  have h := wp_hlo (Q := Q) 𝒱 (SparseCore.T d) none Set.univ (Γ := .empty) (hp := rfl) (op := op) (q := fun _ => fullShare) (F := W)
    (defs := (K (F := F)).defs (D (F := F))) (k := fun _ => .ret ⟨⟩) (fun _ _ => rfl) hf
  rw [hsplit W, hsplit (op.result W), hWx, hWy, hRx, hC W hWx] at h
  refine h.trans (wand_mono_left (wand_mono_right ?_))
  rw [wp_ret]
  iintro H
  imodintro
  iexact H

/-! ## The regions inside the launched program -/

variable [∀ e, Nonempty (Elt F e)]

/-- What a region's rounds start with on device `d`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- A region's custom call, inside the program that launches the SparseCores. -/
theorem wp_region {R : RIns F} {p : Fin 2} (S : Pipeline.RegionSeg (pcfgs (F := F)) adm (pdats R) (none : HIx 1) defs₀ 𝒱₀ (K (F := F)).L (K (F := F)).lev p)
    (d : Dev nD) {Q : PUnit → sProp 𝕄} :
    iprop(boundary (SparseCore.T d) ∗ S.pre d ∗ levAts (K (F := F)).L (K (F := F)).lev ∗ ghost (F := F) p d)
      ⊢ iprop(((boundary (SparseCore.T d) ∗ S.post d) -∗ Q ⟨⟩)
        -∗ wp frame (wpE ((K (F := F)).defs (D (F := F))) 𝒱 (SparseCore.T d) none) Set.univ
            (Prog.lift (.customCall (SparseCore.inner (Pipeline.entry p)) ())) Q) := by
  unfold ghost
  iintro ⟨Hb, Hpre, Hlv, Hg, Ht⟩ HQ
  iapply ((K (F := F)).wp_liftProg (D (F := F)) 𝒱 (SparseCore.T d) Set.univ none (Prog.lift (.customCall (Pipeline.entry p) ())) Q)
  iapply (Pipeline.RegionSeg.wp (pcfgs (F := F)) adm (pdats R) (none : HIx 1) cellOf_inj EP defs₀ 𝒱₀ (K (F := F)).L (K (F := F)).lev S d none
    (fun u hu => nomatch hu) .ret Q)
  isplitl [HQ]
  · iintro H
    rw [wp_ret]
    imodintro
    iapply HQ
    iexact H
  isplitl [Hb]; · iexact Hb
  isplitl [Hpre]; · iexact Hpre
  isplitl [Hlv]; · iexact Hlv
  isplitl [Hg] <;> iassumption

/-! ## @main -/

/-- The TensorCore's eleven arrays, one by one. -/
theorem unscopedBufs_eq (d : Dev nD) (W : (b : Ref sig .tc) → Buf (Elt F) ((d.tc : Thread nD τ).loc b)) :
    (unscopedBufs d W : sProp 𝕄)
      = iprop((((SparseCore.T d).loc main_arg0) ↦{fullShare} W main_arg0) ∗ (((SparseCore.T d).loc main_arg1) ↦{fullShare} W main_arg1)
        ∗ (((SparseCore.T d).loc main_v0) ↦{fullShare} W main_v0) ∗ (((SparseCore.T d).loc main_v1) ↦{fullShare} W main_v1)
        ∗ (((SparseCore.T d).loc main_v2) ↦{fullShare} W main_v2) ∗ (((SparseCore.T d).loc main_v3) ↦{fullShare} W main_v3)
        ∗ (((SparseCore.T d).loc main_v4) ↦{fullShare} W main_v4) ∗ (((SparseCore.T d).loc main_v5) ↦{fullShare} W main_v5)
        ∗ (((SparseCore.T d).loc main_v6) ↦{fullShare} W main_v6) ∗ (((SparseCore.T d).loc main_v7) ↦{fullShare} W main_v7)
        ∗ (((SparseCore.T d).loc main_v8) ↦{fullShare} W main_v8)) := by
  unfold unscopedBufs
  rw [show (Finset.univ.filter fun b : Ref sig .tc => ¬ b.isScoped)
      = {main_arg0, main_arg1, main_v0, main_v1, main_v2, main_v3, main_v4, main_v5, main_v6, main_v7, main_v8} by decide]
  iterate 10 rw [SparseCore.bigSep_insert' (by decide)]
  rw [bigSep_singleton]

variable (m : (ℓ : Loc nD τ sig) → Buf (Elt F) ℓ) (ρ : Dev nD → PrngReg)

/-- What @main leaves the claim: the images as at the launch, and the loss. -/
def FIN (d : Dev nD) : sProp 𝕄 :=
  iprop((((SparseCore.T d).loc main_arg0) ↦{fullShare} m ((SparseCore.T d).loc main_arg0)) ∗ (((SparseCore.T d).loc main_arg1) ↦{fullShare} m ((SparseCore.T d).loc main_arg1))
    ∗ (((SparseCore.T d).loc main_v8) ↦{fullShare} lossS m d))

/-- The launch's contents of the device's buffers. -/
def V0 (d : Dev nD) : Valuation τ sig (Elt F) := fun b => m (d, b)

theorem tcSt_eq (d : Dev nD) (n : ℕ) : ∃ X : sProp 𝕄, ((K (F := F)).tcSt EH d n : sProp 𝕄) = iprop(tcOwes (F := F) d n ∗ X) :=
  ⟨_, rfl⟩

/-- @main on device `d`'s TensorCore. -/
theorem hmain (κ : GSem nD τ sig → ℕ) (d : Dev nD) :
    iprop((K (F := F)).ctx EH (P (ins m)) κ ∗ (K (F := F)).tcSt EH d 0 ∗ (K (F := F)).tcRes m ρ d ∗ (ghost (F := F) 0 d ∗ ghost (F := F) 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscopedBufs_eq]
  obtain ⟨X0, hX0⟩ := tcSt_eq (F := F) d 0
  obtain ⟨X1, hX1⟩ := tcSt_eq (F := F) d 1
  have hX1' : ((K (F := F)).tcSt EH d ((0 : Fin 1).val + 1) : sProp 𝕄) = iprop(tcOwes (F := F) d 1 ∗ X1) := hX1
  simp only [main, wp_bind, wp_pure]
  iintro ⟨#Hctx, Hst, ⟨Hb, ⟨Ha0, Ha1, H0, H1, H2, H3, H4, H5, H6, H7, H8⟩, Hts, -⟩, Hg0, Hg1⟩
  ihave #Hlv := (SparseCore.Cfg.ctx_levAts κ) $$ Hctx
  -- the minimum's region
  ihave Hst := (Entails.of_eq hX0) $$ Hst
  icases Hst with ⟨HO, HX⟩
  iapply (wp_region (region0 (rins m)) d) $$ [Hb Ha0 H0 HO Hg0]
  · isplitl [Hb]; · iexact Hb
    isplitl [Ha0 H0 HO]
    · rw [pre0_eq]
      isplitl [Ha0 H0]
      · isplitl [Ha0]; · iexact Ha0
        iexact H0
      iexact HO
    isplitr; · iexact Hlv
    iexact Hg0
  iintro ⟨Hb, Hpost⟩
  ihave Hpost := (Entails.of_eq (post0_eq (rins m) d)) $$ Hpost
  icases Hpost with ⟨⟨Ha0, H0⟩, HO⟩
  ihave Hst := (Entails.of_eq hX0.symm) $$ [HO HX]
  · isplitl [HO] <;> iassumption
  -- the minimum as sixteen lanes; the images flattened
  iapply (wp_host d main_v0 main_v1 (by decide) rfl rfl rfl (V0 m d) (fun _ => minOf (img0 m d)) _ (minS m d)
    (fun W hW => by rw [StableHlo.reshape_result, hW]; rfl)) $$ [Hb H0 H1]
  · isplitl [Hb]; · iexact Hb
    isplitl [H0]; · iexact H0
    iexact H1
  iintro ⟨Hb, H0, H1⟩
  iapply (wp_host d main_v1 main_v2 (by decide) rfl rfl rfl (V0 m d) (minS m d) _ (min16 m d)
    (fun W hW => by rw [StableHlo.unary_result, hW]; rfl)) $$ [Hb H1 H2]
  · isplitl [Hb]; · iexact Hb
    isplitl [H1]; · iexact H1
    iexact H2
  iintro ⟨Hb, H1, H2⟩
  iapply (wp_host d main_arg0 main_v3 (by decide) rfl rfl rfl (V0 m d) (img0 m d) _ (flat0 m d)
    (fun W hW => by rw [StableHlo.reshape_result, hW]; rfl)) $$ [Hb Ha0 H3]
  · isplitl [Hb]; · iexact Hb
    isplitl [Ha0]; · iexact Ha0
    iexact H3
  iintro ⟨Hb, Ha0, H3⟩
  iapply (wp_host d main_arg1 main_v4 (by decide) rfl rfl rfl (V0 m d) (img1 m d) _ (flat1 m d)
    (fun W hW => by rw [StableHlo.reshape_result, hW]; rfl)) $$ [Hb Ha1 H4]
  · isplitl [Hb]; · iexact Hb
    isplitl [Ha1]; · iexact Ha1
    iexact H4
  iintro ⟨Hb, Ha1, H4⟩
  -- the SparseCore call
  iapply ((K (F := F)).wp_run (D (F := F)) 𝒱 (EH := EH) (P := P (ins m)) κ d 0) $$ [Hst Hb Hts Ha0 Ha1 H0 H1 H2 H3 H4 H5 H6 H7 H8 Hg1]
  isplitr; · iexact Hctx
  isplitl [Hst]; · iexact Hst
  isplitl [H2 H3 H4 H5]
  · rw [st0_eq]
    isplitl [H2]; · iexact H2
    isplitl [H3]; · iexact H3
    isplitl [H4]; · iexact H4
    iexact H5
  iintro ⟨Hst, Hdn⟩
  ihave Hdn' := (Entails.of_eq (dn0_eq (ins m) d)) $$ Hdn
  icases Hdn' with ⟨-, -, -, H5⟩
  -- the partial histograms as a matrix
  iapply (wp_host d main_v5 main_v6 (by decide) rfl rfl rfl (V0 m d) ((ins m).out d) _ (partM m d)
    (fun W hW => by rw [StableHlo.reshape_result, hW]; rfl)) $$ [Hb H5 H6]
  · isplitl [Hb]; · iexact Hb
    isplitl [H5]; · iexact H5
    iexact H6
  iintro ⟨Hb, -, H6⟩
  -- the divergence's region
  ihave Hst := (Entails.of_eq hX1') $$ Hst
  icases Hst with ⟨HO, HX⟩
  iapply (wp_region (region2 (rins m)) d) $$ [Hb H6 H7 HO Hg1]
  · isplitl [Hb]; · iexact Hb
    isplitl [H6 H7 HO]
    · rw [pre2_eq]
      isplitl [H6 H7]
      · isplitl [H6]; · iexact H6
        iexact H7
      iexact HO
    isplitr; · iexact Hlv
    iexact Hg1
  iintro ⟨Hb, Hpost⟩
  ihave Hpost := (Entails.of_eq (post2_eq (rins m) d)) $$ Hpost
  icases Hpost with ⟨⟨-, H7⟩, HO⟩
  ihave Hst := (Entails.of_eq hX1.symm) $$ [HO HX]
  · isplitl [HO] <;> iassumption
  iapply (wp_host d main_v7 main_v8 (by decide) rfl rfl rfl (V0 m d) (fun _ => k2_pay1 (partM m d)) _ (lossS m d)
    (fun W hW => by rw [StableHlo.reshape_result, hW]; rfl)) $$ [Hb H7 H8]
  · isplitl [Hb]; · iexact Hb
    isplitl [H7]; · iexact H7
    iexact H8
  iintro ⟨Hb, -, H8⟩
  imodintro
  isplitl [Hst]; · iexact Hst
  isplitr [Hb Hts]
  · isplitl [Ha0]; · iexact Ha0
    isplitl [Ha1]; · iexact Ha1
    iexact H8
  isplitl [Hb] <;> iassumption

/-! ## The launch element -/

/-- The handshakes' rounds, the regions' rounds, and no transfer's counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem ghosts_eq (d : Dev nD) :
    (iprop((bigSep Finset.univ fun p => Pipeline.cellsGhost (Pipeline.pin (pcfgs (F := F)) adm) EP p d)
      ∗ (bigSep Finset.univ fun p => Pipeline.toksInit (Pipeline.pin (pcfgs (F := F)) adm) EP p d)) : sProp 𝕄)
      = iprop(ghost (F := F) 0 d ∗ ghost (F := F) 1 d) := by
  rw [← bigSep_sep', bigSep_univ_eq_bigSepL [(0 : Fin 2), (1 : Fin 2)] (by decide) (by decide)]
  rfl

theorem hu₀ : (ownU (u₀ (F := F)) : sProp 𝕄)
    ⊢ |={Set.univ}=> iprop(BI.own (EH (initOf (K (F := F)).hsCells (K (F := F)).hsToks))
        ∗ (bigSep Finset.univ fun d : Dev nD => iprop(ghost (F := F) 0 d ∗ ghost (F := F) 1 d))
        ∗ bigSep Finset.univ fun thr : Thread nD τ => bigSep Finset.univ fun q : Fin 1 => (P (ins m)).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · simp only [← ghosts_eq]
    rw [bigSep_sep']
    isplitl [Hg] <;> iassumption
  rw [show (bigSep Finset.univ fun thr : Thread nD τ => bigSep Finset.univ fun q : Fin 1 => (P (ins m)).x q thr) = bigSep Finset.univ fun _ => iprop(emp) from
    bigSep_congr fun _ _ => bigSep_univ_of_subsingleton (0 : Fin 1), bigSep_emp']
  iempintro

/-! ## The program's run -/

/-- The final memory holds the images as at the launch, and the loss. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v8) = lossS m d

theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  unfold FIN fq
  iintro ⟨⟨H0, H1, H8⟩, HSI⟩
  ihave H := (agree _ _ s') $$ [H0 HSI]
  · isplitl [H0] <;> iassumption
  icases H with ⟨%h0, HSI⟩
  ihave H := (agree _ _ s') $$ [H1 HSI]
  · isplitl [H1] <;> iassumption
  icases H with ⟨%h1, HSI⟩
  ihave H := (agree _ _ s') $$ [H8 HSI]
  · isplitl [H8] <;> iassumption
  icases H with ⟨%h8, HSI⟩
  ipureintro
  exact ⟨h0, h1, h8⟩

/-- What the program's run ends in: on each device the images as at the launch and the loss, every semaphore at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_v8) = lossS m d) ∧ r.2.sem = fun _ => 0

/-- Every weakly fair run of the program ends so. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) facts)
    (fun q _ => match q with | 0 => SparseCore.Cfg.VecSplit.of_plain (vecSplit (ins m)))
    m ρ main (fun d => iprop(ghost (F := F) 0 d ∗ ghost (F := F) 1 d)) (FIN m) (u₀ (F := F)) (sep_elim_left.trans (hu₀ m)) (hmain m ρ) (fq m) (hfin m) (QC m)
    (fun _ h hz => ⟨h, hz⟩)

end Cert.Proof.KernelIdeal

end
-- ==== Proof.Value.Element.lean ====
/- One element of an image, in the extended reals: what the kernel and the reference add to the histogram for it, and
   that the two are the same where the smallest element is not zero. -/
module

public import Idealize.ShloMosaic.PureOps.Ideal.Laws
public import Idealize.ShloMosaic.Lib.ValueIdx
public import Mathlib.Algebra.Order.Floor.Ring
public import Mathlib.Tactic.Linarith
public import Mathlib.Tactic.FieldSimp
public import Mathlib.Tactic.NormNum

@[expose] public section

noncomputable section

namespace Cert.Proof.Value

open Idealize.ShloMosaic

/-! ## The constants -/

/-- The patterns of zero, one and 255, as the programs write them. -/
abbrev c0 : EReal := Ideal.ofBits .f32 0x00000000#32
abbrev c1 : EReal := Ideal.ofBits .f32 0x3F800000#32
abbrev c255 : EReal := Ideal.ofBits .f32 0x437F0000#32

theorem c0_eq : c0 = 0 := Ideal.ofBits_zero_f32
theorem c255_eq : c255 = ((255 : ℝ) : EReal) := by
  simp [c255, Ideal.ofBits, Ideal.ieee, -EReal.coe_mul]; norm_num

/-! ## The two contributions -/

/-- Whether an element is counted: not below the minimum `h` and not above zero. -/
def keepW (h x : EReal) : BitVec 1 := IntOp.andi (Ideal.cmp .oge x h) (Ideal.cmp .ole x c0)

/-- The element's distance from the minimum in bins, as the kernel computes it -/
def tK (h x : EReal) : EReal := (x - h) * Ideal.div c255 (c0 - h)
/-- and as the reference does. -/
def tR (h x : EReal) : EReal := Ideal.div (x - h) (Ideal.div (c0 - h) c255)

/-- The kernel's bin -/
def binK (h x : EReal) : BitVec 32 := IntOp.minsi 255#32 (IntOp.maxsi 0#32 (Ideal.fptosi 32 (tK h x)))
/-- and fraction. -/
def fracK (h x : EReal) : EReal := tK h x - (((Ideal.fptosi 32 (tK h x)).toInt : ℝ) : EReal)

/-- What the kernel adds to column `c` for the element `x`. -/
def contK (h x : EReal) (c : ℕ) : EReal :=
  if keepW h x = 1 then (if (binK h x).toNat = c then c1 - fracK h x else 0) + (if (binK h x).toNat + 1 = c then fracK h x else 0) else 0

/-- The reference's bin word, -/
def idxR (h x : EReal) : BitVec 32 := Ideal.fptosi 32 (Scalar.select (keepW h x) (Ideal.liftRound Int.floor (tR h x)) c0)
/-- its fraction, -/
def fracR (h x : EReal) : EReal := tR h x - Ideal.liftRound Int.floor (tR h x)
/-- its two weights, -/
def w0R (h x : EReal) : EReal := Scalar.select (keepW h x) (c1 - fracR h x) c0
def w1R (h x : EReal) : EReal := Scalar.select (keepW h x) (fracR h x) c0
/-- and the wrap of an index. -/
def wrapW (i : BitVec 32) : BitVec 32 := Scalar.select (IntOp.cmpi .slt i 0#32) (IntOp.addi i 257#32) i

/-- What the reference adds to bin `c` for the element `x`. -/
def contR (h x : EReal) (c : ℕ) : EReal :=
  (if (wrapW (idxR h x)).toInt = (c : ℤ) then w0R h x else 0) + (if (wrapW (IntOp.addi (idxR h x) 1#32)).toInt = (c : ℤ) then w1R h x else 0)

/-! ## They agree -/

theorem keepW_iff (h x : EReal) : keepW h x = 1#1 ↔ h ≤ x ∧ x ≤ 0 := by
  unfold keepW Ideal.cmp
  rw [c0_eq]
  by_cases a : h ≤ x <;> by_cases b : x ≤ 0 <;> simp [a, b, IntOp.andi]

/-- A counted element's distance is one real number between 0 and 255 for both, unless the minimum is zero. -/
theorem t_real (h x : EReal) (h0 : h ≠ 0) (hx : h ≤ x) (hx0 : x ≤ 0) : ∃ r : ℝ, 0 ≤ r ∧ r ≤ 255 ∧ tK h x = r ∧ tR h x = r := by
  unfold tK tR
  rw [c0_eq, c255_eq]
  have h255 : ((255 : ℝ) : EReal) ≠ 0 := by exact_mod_cast (by norm_num : (255 : ℝ) ≠ 0)
  induction h with
  | bot =>
    have e : (0 : EReal) - ⊥ = ⊤ := by rw [sub_eq_add_neg, EReal.neg_bot, zero_add]
    have d : Ideal.div ⊤ ((255 : ℝ) : EReal) = ⊤ := by
      rw [Ideal.div_coe (by norm_num)]
      exact EReal.top_mul_coe_of_pos (by norm_num)
    refine ⟨0, le_refl _, by norm_num, ?_, ?_⟩
    · rw [e, Ideal.div, if_neg (by simp), EReal.inv_top]; simp
    · rw [e, d, Ideal.div, if_neg (by simp), EReal.inv_top]; simp
  | top => exact absurd (hx.trans hx0) (by simp)
  | coe a =>
    induction x with
    | bot => exact absurd hx (by simp)
    | top => exact absurd hx0 (by simp)
    | coe y =>
      have ha : a ≠ 0 := by exact_mod_cast h0
      have hay : a ≤ y := by exact_mod_cast hx
      have hy : y ≤ 0 := by exact_mod_cast hx0
      have ha' : a < 0 := lt_of_le_of_ne (hay.trans hy) ha
      have hna : (0 : ℝ) - a ≠ 0 := by simpa using ha
      have hq : (0 - a) * (1 / 255) ≠ 0 := mul_ne_zero hna (by norm_num)
      refine ⟨(y - a) * (255 * (1 / (0 - a))), ?_, ?_, ?_, ?_⟩
      · have : 0 < 0 - a := by linarith
        have : 0 < 1 / (0 - a) := by positivity
        have : 0 ≤ y - a := by linarith
        positivity
      · have hp : 0 < 0 - a := by linarith
        rw [show (y - a) * (255 * (1 / (0 - a))) = 255 * ((y - a) / (0 - a)) by ring]
        have : (y - a) / (0 - a) ≤ 1 := by rw [div_le_one hp]; linarith
        linarith
      · rw [show (0 : EReal) - (a : EReal) = ((0 - a : ℝ) : EReal) by rw [EReal.coe_sub]; rfl, Ideal.div_coe hna]
        norm_cast
      · rw [show (0 : EReal) - (a : EReal) = ((0 - a : ℝ) : EReal) by rw [EReal.coe_sub]; rfl, Ideal.div_coe (by norm_num : (255 : ℝ) ≠ 0),
          show ((0 - a : ℝ) : EReal) * ((1 / 255 : ℝ) : EReal) = (((0 - a) * (1 / 255) : ℝ) : EReal) by norm_cast, Ideal.div_coe hq,
          show (y : EReal) - (a : EReal) = ((y - a : ℝ) : EReal) by norm_cast]
        norm_cast
        field_simp

/-- A real between 0 and 255 is truncated to its integer part. -/
theorem fptosi_real (r : ℝ) (h0 : 0 ≤ r) (h1 : r ≤ 255) : ∃ n : ℕ, n ≤ 255 ∧ ⌊r⌋ = (n : ℤ) ∧ Ideal.fptosi 32 (r : EReal) = BitVec.ofNat 32 n := by
  have hf0 : 0 ≤ ⌊r⌋ := Int.floor_nonneg.mpr h0
  have hf1 : ⌊r⌋ ≤ 255 := by
    have := Int.floor_le_floor h1
    simpa using this
  obtain ⟨n, hn⟩ := Int.eq_ofNat_of_zero_le hf0
  refine ⟨n, by omega, hn, ?_⟩
  unfold Ideal.fptosi
  rw [Ideal.toIntClamped_coe, if_pos h0, hn]
  have : max (-((2 ^ (32 - 1) : ℕ) : ℤ)) (min (((2 ^ (32 - 1) : ℕ) : ℤ) - 1) (n : ℤ)) = (n : ℤ) := by norm_num; omega
  rw [this, BitVec.ofInt_natCast]

theorem toNat_ofNat (n : ℕ) (hn : n ≤ 256) : (BitVec.ofNat 32 n).toNat = n := by
  rw [BitVec.toNat_ofNat]; omega
theorem toInt_ofNat (n : ℕ) (hn : n ≤ 256) : (BitVec.ofNat 32 n).toInt = (n : ℤ) := by
  rw [BitVec.toInt_eq_toNat_cond, toNat_ofNat n hn, if_pos (by omega)]
theorem wrapW_ofNat (n : ℕ) (hn : n ≤ 256) : wrapW (BitVec.ofNat 32 n) = BitVec.ofNat 32 n := by
  unfold wrapW
  have h : IntOp.cmpi .slt (BitVec.ofNat 32 n) 0#32 = 0#1 := by
    show BitVec.ofBool (BitVec.slt _ _) = 0#1
    rw [BitVec.slt, toInt_ofNat n hn, show (0#32 : BitVec 32).toInt = 0 from by decide, decide_eq_false (by omega)]
    rfl
  rw [h, ValueIdx.select_zero]
theorem clip_ofNat (n : ℕ) (hn : n ≤ 255) : IntOp.minsi 255#32 (IntOp.maxsi 0#32 (BitVec.ofNat 32 n)) = BitVec.ofNat 32 n := by
  have h1 : IntOp.maxsi 0#32 (BitVec.ofNat 32 n) = BitVec.ofNat 32 n := by
    unfold IntOp.maxsi
    rw [BitVec.slt, toInt_ofNat n (by omega), show (0#32 : BitVec 32).toInt = 0 from by decide]
    by_cases h : n = 0
    · subst h; simp
    · rw [decide_eq_false (by omega)]; simp
  rw [h1]
  unfold IntOp.minsi
  rw [BitVec.slt, toInt_ofNat n (by omega), show (255#32 : BitVec 32).toInt = 255 from by decide]
  rw [decide_eq_false (by omega)]; simp

/-- The reference and the kernel add the same to every bin for every element. -/
theorem contR_eq (h x : EReal) (h0 : h ≠ 0) (c : ℕ) : contR h x c = contK h x c := by
  unfold contR contK
  by_cases hk : keepW h x = 1#1
  · obtain ⟨r, hr0, hr1, hK, hR⟩ := t_real h x h0 ((keepW_iff h x).mp hk).1 ((keepW_iff h x).mp hk).2
    obtain ⟨n, hn, hfl, hfp⟩ := fptosi_real r hr0 hr1
    have hfl' : Ideal.liftRound Int.floor (r : EReal) = ((n : ℝ) : EReal) := by
      rw [Ideal.liftRound_coe, hfl]; simp
    obtain ⟨n', -, hfl2, hfp2⟩ := fptosi_real (n : ℝ) (by positivity) (by exact_mod_cast hn)
    have hnn : n' = n := by
      rw [Int.floor_natCast] at hfl2
      exact_mod_cast hfl2.symm
    subst hnn
    have e1 : idxR h x = BitVec.ofNat 32 n' := by
      unfold idxR
      rw [hk, ValueIdx.select_one, hR, hfl']
      exact hfp2
    have e2 : fracR h x = fracK h x := by
      unfold fracR fracK
      rw [hK, hR, hfl', hfp, toInt_ofNat n' (by omega)]
      simp
    have e3 : binK h x = BitVec.ofNat 32 n' := by
      unfold binK
      rw [hK, hfp, clip_ofNat n' hn]
    have e4 : IntOp.addi (BitVec.ofNat 32 n') 1#32 = BitVec.ofNat 32 (n' + 1) := by
      show BitVec.ofNat 32 n' + 1#32 = _
      rw [BitVec.ofNat_add]
    unfold w0R w1R
    rw [if_pos (show keepW h x = 1 from hk), e1, e3, e4, wrapW_ofNat n' (by omega), wrapW_ofNat (n' + 1) (by omega), toInt_ofNat n' (by omega), toInt_ofNat (n' + 1) (by omega),
      toNat_ofNat n' (by omega), hk, ValueIdx.select_one, ValueIdx.select_one, e2]
    simp only [Nat.cast_inj]
  · have hk0 := ValueIdx.eq_zero_of_ne_one hk
    unfold w0R w1R
    rw [if_neg (show ¬ keepW h x = 1 from hk), hk0, ValueIdx.select_zero, ValueIdx.select_zero, c0_eq]
    simp

end Cert.Proof.Value

end
-- ==== Proof.Value.Sums.lean ====
/- Sums over consecutive positions, and an indexed add as a sum over the lanes. -/
module

public import Idealize.ShloMosaic.PureOps.Ideal.Laws
public import Idealize.ShloMosaic.PureOps.ShapeOps

@[expose] public section

noncomputable section

namespace Cert.Proof.Value

open Idealize.ShloMosaic
open scoped BigOperators

/-- A sum over `a` stretches of `b` positions is the sum over their positions. -/
theorem sum_blocks {M : Type*} [AddCommMonoid M] (a b : ℕ) (f : ℕ → M) :
    ∑ i ∈ Finset.range a, ∑ k ∈ Finset.range b, f (b * i + k) = ∑ e ∈ Finset.range (b * a), f e := by
  induction a with
  | zero => simp
  | succ a ih => rw [Finset.sum_range_succ, ih, Nat.mul_succ, Finset.sum_range_add]

/-- A fold that adds at the positions it names is the start plus what it adds there. -/
theorem foldl_add {ι α M : Type*} [AddCommMonoid M] (l : List ι) (F : (α → M) → ι → α → M) (w : ι → α → M)
    (hF : ∀ g k j, F g k j = g j + w k j) (f : α → M) (j : α) : l.foldl F f j = f j + (l.map fun k => w k j).sum := by
  induction l generalizing f with
  | nil => simp
  | cons k l ih => rw [List.foldl_cons, ih, hF, List.map_cons, List.sum_cons, add_assoc]

/-- An indexed add leaves at each position what was there plus the values of the kept lanes that name it. -/
theorem storeIdx_add {s : Shape} {d : Fin 1 → ℕ} (f : Vec Ideal s .f32) (idxs : Fin s.rank → IVec ⟨1, d⟩ 32) (v : Vec Ideal ⟨1, d⟩ .f32)
    (mask : IVec ⟨1, d⟩ 1) (p : ∀ a x, (idxs a x).toNat < s.size a) (j : s.Idx) :
    storeIdx f idxs v mask true p j
      = (f j + ∑ k : Fin (d 0), if mask (Shape.ofLane k) = 1 ∧ ∀ a, (j a).val = (idxs a (Shape.ofLane k)).toNat then v (Shape.ofLane k) else 0 : EReal) := by
  rw [Fin.sum_univ_def]
  unfold storeIdx
  refine foldl_add (M := EReal) (List.finRange (d 0)) _
    (fun k j => if mask (Shape.ofLane k) = 1 ∧ ∀ a, (j a).val = (idxs a (Shape.ofLane k)).toNat then v (Shape.ofLane k) else 0) ?_ f j
  intro g k j
  dsimp only
  by_cases hm : mask (Shape.ofLane k) = 1
  · rw [if_pos hm]
    by_cases hj : ∀ a, (j a).val = (idxs a (Shape.ofLane k)).toNat
    · have hji : j = idxAt idxs p (Shape.ofLane k) := funext fun a => Fin.ext (hj a)
      rw [if_pos (show ∀ a, (j a).val = (idxAt idxs p (Shape.ofLane k) a).val from hj), if_pos (show mask (Shape.ofLane k) = 1 ∧ ∀ a, (j a).val = (idxs a (Shape.ofLane k)).toNat from ⟨hm, hj⟩), ← hji]
      rfl
    · rw [if_neg (show ¬ ∀ a, (j a).val = (idxAt idxs p (Shape.ofLane k) a).val from hj), if_neg (fun h => hj h.2)]
      exact (add_zero _).symm
  · rw [if_neg hm, if_neg (fun h => hm h.1)]
    exact (add_zero _).symm

/-- The same, with the kept lanes described by any predicate. -/
theorem storeIdx_add_of {s : Shape} {d : Fin 1 → ℕ} (f : Vec Ideal s .f32) (idxs : Fin s.rank → IVec ⟨1, d⟩ 32) (v : Vec Ideal ⟨1, d⟩ .f32)
    (mask : IVec ⟨1, d⟩ 1) (p : ∀ a x, (idxs a x).toNat < s.size a) (j : s.Idx) (P : Fin (d 0) → Prop) [DecidablePred P]
    (hP : ∀ k, (mask (Shape.ofLane k) = 1 ∧ ∀ a, (j a).val = (idxs a (Shape.ofLane k)).toNat) ↔ P k) :
    storeIdx f idxs v mask true p j = (f j + ∑ k : Fin (d 0), if P k then v (Shape.ofLane k) else 0 : EReal) := by
  rw [storeIdx_add]
  refine congrArg (fun z : EReal => f j + z) (Finset.sum_congr rfl fun k _ => ?_)
  exact if_congr (hP k) rfl rfl

end Cert.Proof.Value

end
-- ==== Proof.Value.Hist.lean ====
/- A tile's histogram over the extended reals: at each column, the sum of what the elements of the tile's chunks add there. -/
module

public import proofs.«01_k».proof.Proof.KernelIdeal.TileBody
public import proofs.«01_k».proof.Proof.Value.Element
public import proofs.«01_k».proof.Proof.Value.Sums

@[expose] public section

noncomputable section

namespace Cert.Proof.Value

open Cert.KernelIdeal Cert.KernelIdeal.Gen Cert.Proof.KernelIdeal
open Idealize.ShloMosaic
open scoped BigOperators

/-- The column block that chunk `v` of a tile is added into. -/
abbrev selW (v : BitVec 32) : ℕ := (Scalar.select (Scalar.cmpi .slt v 16#32) 0#32 512#32 : BitVec 32).toNat

theorem selW_lo (c : ℕ) (h : c < 16) : selW (BitVec.ofNat 32 c) = 0 := by
  interval_cases c <;> rfl
theorem selW_hi (c : ℕ) (h : 16 ≤ c) (h' : c < 32) : selW (BitVec.ofNat 32 c) = 512 := by
  interval_cases c <;> rfl
theorem selW_or (v : BitVec 32) : selW v = 0 ∨ selW v = 512 := by
  unfold selW Scalar.select; split
  · exact Or.inl rfl
  · exact Or.inr rfl

/-- Lane `l` of a vector. -/
abbrev lane (l : ℕ) : S16.Idx := ix 16 (by decide) l

theorem ofLane_eq (k : Fin 16) : (Shape.ofLane (d := ![16]) k : S16.Idx) = lane k.val := by
  funext a
  match a with
  | 0 => exact Fin.ext (show k.val = k.val % 16 by omega)

/-- One vector adds, at column `o + c` of lane `l`'s histogram, what lane `l`'s element adds to column `c`, if the chunk's
    block is `o`'s. -/
theorem step_apply (h : EReal) (v42 : BitVec 32) (x : Vec Ideal S16 .f32) (g : Vec Ideal S16384 .f32) (j : S16384.Idx)
    (l o c : ℕ) (hl : l < 16) (ho : o = 0 ∨ o = 512) (hc : c < 256) (hj : (j 0).val = 1024 * l + o + c) :
    step (F := Ideal) (fun _ => h) v42 x g j = (g j + if selW v42 = o then contK h (x (lane l)) c else 0 : EReal) := by
  have hb : ∀ k : Fin 16, (binOf (F := Ideal) (fun _ => h) v42 x (lane k.val)).toNat
      = 1024 * k.val + selW v42 + (binK h (x (lane k.val))).toNat := fun k => by
    have := toNat_bin (F := Ideal) (fun _ => h) v42 x (lane k.val)
    rw [this]
    show 1024 * (k.val % 16) + _ + _ = _
    rw [Nat.mod_eq_of_lt k.isLt]
    rfl
  have hn : ∀ k : Fin 16, (k1_pay119 (binOf (F := Ideal) (fun _ => h) v42 x) (lane k.val)).toNat
      = 1024 * k.val + selW v42 + (binK h (x (lane k.val))).toNat + 1 := fun k => by
    rw [← hb k]
    exact toNat_succ _ (by have := bin_lt (F := Ideal) (fun _ => h) v42 x (lane k.val); omega)
  have hc255 : ∀ k : Fin 16, (binK h (x (lane k.val))).toNat ≤ 255 := fun k => toNat_clip _
  have hs := selW_or v42
  have e1 : ∀ k : Fin 16, (k1_pay116 (F := Ideal) (fun _ => h) x (Shape.ofLane (d := ![16]) k) = 1
        ∧ ∀ a : Fin S16384.rank, (j a).val = ((![binOf (F := Ideal) (fun _ => h) v42 x] : Fin S16384.rank → IVec S16 32) a (Shape.ofLane (d := ![16]) k)).toNat)
      ↔ (keepW h (x (lane k.val)) = 1 ∧ k.val = l ∧ selW v42 = o ∧ (binK h (x (lane k.val))).toNat = c) := fun k => by
    rw [ofLane_eq]
    refine and_congr Iff.rfl ((show _ ↔ (j 0).val = (binOf (F := Ideal) (fun _ => h) v42 x (lane k.val)).toNat from Fin.forall_fin_one).trans ?_)
    rw [hb, hj]
    have := hc255 k; have := k.isLt
    omega
  have e2 : ∀ k : Fin 16, (k1_pay116 (F := Ideal) (fun _ => h) x (Shape.ofLane (d := ![16]) k) = 1
        ∧ ∀ a : Fin S16384.rank, (j a).val = ((![k1_pay119 (binOf (F := Ideal) (fun _ => h) v42 x)] : Fin S16384.rank → IVec S16 32) a (Shape.ofLane (d := ![16]) k)).toNat)
      ↔ (keepW h (x (lane k.val)) = 1 ∧ k.val = l ∧ selW v42 = o ∧ (binK h (x (lane k.val))).toNat + 1 = c) := fun k => by
    rw [ofLane_eq]
    refine and_congr Iff.rfl ((show _ ↔ (j 0).val = (k1_pay119 (binOf (F := Ideal) (fun _ => h) v42 x) (lane k.val)).toNat from Fin.forall_fin_one).trans ?_)
    rw [hn, hj]
    have := hc255 k; have := k.isLt
    omega
  unfold step
  refine (storeIdx_add_of (s := S16384) (d := ![16]) _ _ _ _ _ j _ e2).trans ?_
  refine (congrArg (fun z : EReal => z + _) (storeIdx_add_of (s := S16384) (d := ![16]) g _ _ _ _ j _ e1)).trans ?_
  refine (add_assoc (G := EReal) _ _ _).trans ?_
  refine congrArg (fun z : EReal => g j + z) ?_
  refine (congrArg₂ (fun a b : EReal => a + b)
    (Finset.sum_eq_single (⟨l, hl⟩ : Fin 16) (fun k _ hk => if_neg fun hh => hk (Fin.ext hh.2.1)) fun hh => absurd (Finset.mem_univ _) hh)
    (Finset.sum_eq_single (⟨l, hl⟩ : Fin 16) (fun k _ hk => if_neg fun hh => hk (Fin.ext hh.2.1)) fun hh => absurd (Finset.mem_univ _) hh)).trans ?_
  have f1 : k1_pay118 (F := Ideal) (fun _ => h) x (Shape.ofLane (d := ![16]) (⟨l, hl⟩ : Fin 16)) = (c1 - fracK h (x (lane l)) : EReal) := by
    rw [ofLane_eq]; rfl
  have f2 : k1_pay115 (F := Ideal) (fun _ => h) x (Shape.ofLane (d := ![16]) (⟨l, hl⟩ : Fin 16)) = (fracK h (x (lane l)) : EReal) := by
    rw [ofLane_eq]; rfl
  rw [f1, f2]
  unfold contK
  by_cases hk : keepW h (x (lane l)) = 1#1 <;> by_cases hso : selW v42 = o <;> simp [hk, hso]

/-- Vector by vector, a chunk adds the same for each of its first `n` vectors. -/
theorem chunkHist_apply (h : EReal) (v42 : BitVec 32) (B : Vec Ideal S32768 .f32) (g : Vec Ideal S16384 .f32) (j : S16384.Idx)
    (l o c : ℕ) (hl : l < 16) (ho : o = 0 ∨ o = 512) (hc : c < 256) (hj : (j 0).val = 1024 * l + o + c) (n : ℕ) :
    chunkHist (F := Ideal) (fun _ => h) v42 B g n j
      = (g j + ∑ k ∈ Finset.range n, if selW v42 = o then contK h (B (ix 32768 (by decide) (16 * k + l))) c else 0 : EReal) := by
  induction n with
  | zero => rw [Finset.sum_range_zero]; exact (add_zero (M := EReal) _).symm
  | succ n ih =>
    refine (step_apply h v42 (vecAt B n) (chunkHist (F := Ideal) (fun _ => h) v42 B g n) j l o c hl ho hc hj).trans ?_
    rw [ih, Finset.sum_range_succ, add_assoc]
    have hv : vecAt (F := Ideal) B n (lane l) = B (ix 32768 (by decide) (16 * n + l)) := by
      show B (ix 32768 _ (16 * n + l % 16)) = _
      rw [Nat.mod_eq_of_lt hl]
    rw [hv]

/-- A tile's histogram after `n` chunks. -/
theorem tileHist_apply (h : EReal) (A B : Vec Ideal S16777216 .f32) (w : ℕ) (j : S16384.Idx)
    (l o c : ℕ) (hl : l < 16) (ho : o = 0 ∨ o = 512) (hc : c < 256) (hj : (j 0).val = 1024 * l + o + c) (n : ℕ) :
    tileHist (F := Ideal) (fun _ => h) A B w n j
      = (∑ q ∈ Finset.range n, ∑ k ∈ Finset.range 2048,
          if selW (BitVec.ofNat 32 q) = o then contK h (chunk (F := Ideal) A B w q (ix 32768 (by decide) (16 * k + l))) c else 0 : EReal) := by
  induction n with
  | zero => rw [Finset.sum_range_zero]; exact c0_eq
  | succ n ih =>
    rw [Finset.sum_range_succ, ← ih]
    exact chunkHist_apply h _ _ _ j l o c hl ho hc hj 2048

/-- The element at position `n` of a flat image. -/
abbrev at' (A : Vec Ideal S16777216 .f32) (n : ℕ) : EReal := A (ix 16777216 (by decide) n)

theorem chunk_apply_lo (A B : Vec Ideal S16777216 .f32) (w q k l : ℕ) (hq : q < 16) (hk : k < 2048) (hl : l < 16) :
    chunk (F := Ideal) A B w q (ix 32768 (by decide) (16 * k + l)) = at' A (524288 * w + 32768 * q + (16 * k + l)) := by
  rw [chunk_lo A B w q hq]
  show A (ix 16777216 _ (524288 * w + 32768 * q + (16 * k + l) % 32768)) = _
  rw [Nat.mod_eq_of_lt (by omega)]
theorem chunk_apply_hi (A B : Vec Ideal S16777216 .f32) (w q k l : ℕ) (hk : k < 2048) (hl : l < 16) :
    chunk (F := Ideal) A B w (16 + q) (ix 32768 (by decide) (16 * k + l)) = at' B (524288 * w + 32768 * q + (16 * k + l)) := by
  rw [chunk_hi A B w (16 + q) (by omega)]
  show B (ix 16777216 _ (524288 * w + 32768 * (16 + q - 16) + (16 * k + l) % 32768)) = _
  rw [Nat.mod_eq_of_lt (by omega), Nat.add_sub_cancel_left]

/-- In the first column block a tile's lane holds the first image's elements, -/
theorem tile_lo (h : EReal) (A B : Vec Ideal S16777216 .f32) (w : ℕ) (j : S16384.Idx) (l c : ℕ) (hl : l < 16) (hc : c < 256)
    (hj : (j 0).val = 1024 * l + c) :
    tileHist (F := Ideal) (fun _ => h) A B w 32 j
      = (∑ q ∈ Finset.range 16, ∑ k ∈ Finset.range 2048, contK h (at' A (524288 * w + 32768 * q + (16 * k + l))) c : EReal) := by
  refine (tileHist_apply h A B w j l 0 c hl (Or.inl rfl) hc (by omega) (16 + 16)).trans ?_
  rw [Finset.sum_range_add]
  refine (congrArg₂ (fun a b : EReal => a + b) (Finset.sum_congr rfl fun q hq => Finset.sum_congr rfl fun k hk => ?_)
    (Finset.sum_eq_zero fun q hq => Finset.sum_eq_zero fun k _ => ?_)).trans (add_zero _)
  · rw [if_pos (selW_lo q (Finset.mem_range.mp hq)), chunk_apply_lo A B w q k l (Finset.mem_range.mp hq) (Finset.mem_range.mp hk) hl]
  · have := Finset.mem_range.mp hq
    rw [if_neg (by rw [selW_hi (16 + q) (by omega) (by omega)]; decide)]

/-- in the second the second image's. -/
theorem tile_hi (h : EReal) (A B : Vec Ideal S16777216 .f32) (w : ℕ) (j : S16384.Idx) (l c : ℕ) (hl : l < 16) (hc : c < 256)
    (hj : (j 0).val = 1024 * l + 512 + c) :
    tileHist (F := Ideal) (fun _ => h) A B w 32 j
      = (∑ q ∈ Finset.range 16, ∑ k ∈ Finset.range 2048, contK h (at' B (524288 * w + 32768 * q + (16 * k + l))) c : EReal) := by
  refine (tileHist_apply h A B w j l 512 c hl (Or.inr rfl) hc (by omega) (16 + 16)).trans ?_
  rw [Finset.sum_range_add]
  refine (congrArg₂ (fun a b : EReal => a + b) (Finset.sum_eq_zero fun q hq => Finset.sum_eq_zero fun k _ => ?_)
    (Finset.sum_congr rfl fun q hq => Finset.sum_congr rfl fun k hk => ?_)).trans (zero_add _)
  · rw [if_neg (by rw [selW_lo q (Finset.mem_range.mp hq)]; decide)]
  · have := Finset.mem_range.mp hq
    rw [if_pos (selW_hi (16 + q) (by omega) (by omega)), chunk_apply_hi A B w q k l (Finset.mem_range.mp hk) hl]

/-- Over all tiles and lanes, every element of an image is met once. -/
theorem sum_all (f : ℕ → EReal) :
    ∑ w ∈ Finset.range 32, ∑ l ∈ Finset.range 16, ∑ q ∈ Finset.range 16, ∑ k ∈ Finset.range 2048, f (524288 * w + 32768 * q + (16 * k + l))
      = ∑ e ∈ Finset.range (524288 * 32), f e := by
  rw [← sum_blocks 32 524288]
  refine Finset.sum_congr rfl fun w _ => ?_
  rw [Finset.sum_comm, show (524288 : ℕ) = 32768 * 16 from rfl, ← sum_blocks 16 32768]
  refine Finset.sum_congr rfl fun q _ => ?_
  rw [Finset.sum_comm, show (32768 : ℕ) = 16 * 2048 from rfl, ← sum_blocks 2048 16]
  refine Finset.sum_congr rfl fun k _ => Finset.sum_congr rfl fun l _ => ?_
  rw [Nat.add_assoc]

end Cert.Proof.Value

end
-- ==== Proof.Value.Columns.lean ====
/- The partial histograms summed over the rows: each column is the sum over a whole image. -/
module

public import proofs.«01_k».proof.Proof.Value.Hist
public import proofs.«01_k».proof.Proof.KernelIdeal.Main
public import Idealize.ShloMosaic.Lib.ValueLayout
public import Idealize.ShloMosaic.Lib.Pipeline.Value

@[expose] public section

noncomputable section

namespace Cert.Proof.Value

open Cert.KernelIdeal Cert.KernelIdeal.Gen Cert.Proof.KernelIdeal
open Idealize.ShloMosaic Idealize.ShloMosaic.ValueIdx
open scoped BigOperators

/-- What the elements of a flat image add to column `c`. -/
def colK (h : EReal) (A : Vec Ideal S16777216 .f32) (c : ℕ) : EReal := ∑ e ∈ Finset.range (524288 * 32), contK h (at' A e) c

/-- Row `r` and column `c` of the matrix of partial histograms is a position of one tile's histogram. -/
theorem part_apply (v5 : Vec Ideal S16 .f32) (A B : Vec Ideal S16777216 .f32) (r : Fin 512) (c : Fin 1024) :
    shapeCast S512x1024 (outF (F := Ideal) v5 A B) shapeCasts_S524288_S512x1024 (ix2 r c)
      = tileHist (F := Ideal) v5 A B (r.val / 16) 32 (ix 16384 (by decide) (1024 * (r.val % 16) + c.val)) := by
  have hr := r.isLt
  have hc := c.isLt
  rw [shapeCast_apply (outF (F := Ideal) v5 A B) shapeCasts_S524288_S512x1024 (ix2 r c) (ix1 (⟨1024 * r.val + c.val, by omega⟩ : Fin 524288)) (by
    rw [Shape.rowMajor_val_one, Shape.rowMajor_val_two]
    show 1024 * r.val + c.val = r.val * 1024 + c.val
    omega)]
  unfold outF
  generalize hT : (fun w => tileHist (F := Ideal) v5 A B w 32) = T
  have hT' : ∀ w, tileHist (F := Ideal) v5 A B w 32 = T w := fun w => congrFun hT w
  simp only [hT']
  show T ((1024 * r.val + c.val) / 16384) (ix 16384 _ (1024 * r.val + c.val)) = _
  rw [show (1024 * r.val + c.val) / 16384 = r.val / 16 by omega]
  refine congrArg (T (r.val / 16)) (funext fun a => ?_)
  match a with
  | 0 => exact Fin.ext (show (1024 * r.val + c.val) % 16384 = (1024 * (r.val % 16) + c.val) % 16384 by omega)

/-- The sum over the rows, tile by tile and lane by lane. -/
theorem sum_rows (g : ℕ → EReal) : ∑ r : Fin 512, g r.val = ∑ w ∈ Finset.range 32, ∑ l ∈ Finset.range 16, g (16 * w + l) := by
  rw [sum_blocks 32 16, Fin.sum_univ_eq_sum_range g 512]

/-- The first 256 columns hold the first image's sums, -/
theorem column_lo (h : EReal) (A B : Vec Ideal S16777216 .f32) (c : Fin 1024) (hc : c.val < 256) :
    ∑ r : Fin 512, (shapeCast S512x1024 (outF (F := Ideal) (fun _ => h) A B) shapeCasts_S524288_S512x1024 (ix2 r c) : EReal) = colK h A c.val := by
  unfold colK
  refine (Finset.sum_congr rfl fun r _ => part_apply (fun _ => h) A B r c).trans ?_
  refine (sum_rows fun r => tileHist (F := Ideal) (fun _ => h) A B (r / 16) 32 (ix 16384 (by decide) (1024 * (r % 16) + c.val))).trans ?_
  rw [← sum_all]
  refine Finset.sum_congr rfl fun w _ => Finset.sum_congr rfl fun l hl => ?_
  have hl := Finset.mem_range.mp hl
  rw [show (16 * w + l) / 16 = w by omega, show (16 * w + l) % 16 = l by omega]
  refine tile_lo h A B w _ l c.val hl hc ?_
  show (1024 * l + c.val) % 16384 = _
  omega

/-- and the 256 columns from 512 on the second image's. -/
theorem column_hi (h : EReal) (A B : Vec Ideal S16777216 .f32) (c : Fin 1024) (c' : ℕ) (hc : c.val = 512 + c') (hc' : c' < 256) :
    ∑ r : Fin 512, (shapeCast S512x1024 (outF (F := Ideal) (fun _ => h) A B) shapeCasts_S524288_S512x1024 (ix2 r c) : EReal) = colK h B c' := by
  unfold colK
  refine (Finset.sum_congr rfl fun r _ => part_apply (fun _ => h) A B r c).trans ?_
  refine (sum_rows fun r => tileHist (F := Ideal) (fun _ => h) A B (r / 16) 32 (ix 16384 (by decide) (1024 * (r % 16) + c.val))).trans ?_
  rw [← sum_all]
  refine Finset.sum_congr rfl fun w _ => Finset.sum_congr rfl fun l hl => ?_
  have hl := Finset.mem_range.mp hl
  rw [show (16 * w + l) / 16 = w by omega, show (16 * w + l) % 16 = l by omega]
  refine tile_hi h A B w _ l c' hl hc' ?_
  show (1024 * l + c.val) % 16384 = _
  omega

end Cert.Proof.Value

end
-- ==== Proof.Value.Scatter.lean ====
/- An adding scatter at one column of index words, in the extended reals: each entry gains the updates whose word is its index. -/
module

public import Idealize.ShloMosaic.PureOps.Ideal.Laws
public import Idealize.ShloMosaic.Lib.Routing.OpsPair
public import Idealize.ShloMosaic.Lib.ValueIdxRank1

@[expose] public section

noncomputable section

namespace Cert.Proof.Value

open Idealize.ShloMosaic Idealize.ShloMosaic.ValueIdx Idealize.ShloMosaic.Routing
open scoped BigOperators

variable {M N : ℕ}

/-- Update `k` lands at entry `e` exactly when its index word, read signed, is `e`. -/
theorem lands_word (d : ScatterDims ⟨1, ![M]⟩ ⟨2, ![N, 1]⟩ ⟨1, ![N]⟩) (hiw : d.insertedWindowDims = [0])
    (hsd : d.scatterDimsToOperandDims = [0]) (hiv : d.indexVectorDim = 1) (idx : IVec ⟨2, ![N, 1]⟩ 32) (k : Fin N) (e : Fin M) :
    d.resultIdx? (ix1 k) idx = some (ix1 e) ↔ (idx (ix2 k 0)).toInt = (e.val : ℤ) := by
  have hm : (0 : Fin 1) ∈ d.scatterDimsToOperandDims := by rw [hsd]; exact List.mem_singleton.2 rfl
  have hwin : d.window (ix1 k) 0 = 0 := by
    unfold ScatterDims.window
    rw [dif_neg fun h => (of_decide_eq_true (List.mem_filter.1 h).2) (by rw [hiw]; exact List.mem_singleton.2 rfl)]
  have hstart : d.start (ix1 k) idx 0 = (idx (ix2 k 0)).toInt := by
    unfold ScatterDims.start
    rw [dif_pos hm]
    have hsi : d.siIdx (ix1 k) ⟨d.scatterDimsToOperandDims.idxOf 0, List.idxOf_lt_length_iff.2 hm⟩ = ix2 k (0 : Fin 1) := by
      have q : ∀ X : Fin 1, (ix1 k X).val = k.val := fun X => by
        obtain rfl : X = 0 := Subsingleton.elim _ _
        rfl
      funext b
      match b with
      | ⟨0, _⟩ =>
        apply Fin.ext
        unfold ScatterDims.siIdx
        rw [dif_neg (by rw [hiv]; exact Nat.zero_ne_one)]
        exact q _
      | ⟨1, _⟩ => exact Subsingleton.elim (α := Fin 1) _ _
    rw [hsi]
  rw [resultIdx?_ix1, hstart, hwin, Nat.cast_zero, add_zero]

/-- The scatter at entry `e`. -/
theorem scatterAdd_word (d : ScatterDims ⟨1, ![M]⟩ ⟨2, ![N, 1]⟩ ⟨1, ![N]⟩) (hiw : d.insertedWindowDims = [0])
    (hsd : d.scatterDimsToOperandDims = [0]) (hiv : d.indexVectorDim = 1) (x : FVec Ideal ⟨1, ![M]⟩ .f32) (idx : IVec ⟨2, ![N, 1]⟩ 32)
    (upd : FVec Ideal ⟨1, ![N]⟩ .f32) (e : Fin M) :
    Host.scatterAdd d x idx upd (ix1 e)
      = (x (ix1 e) + ∑ k : Fin N, if (idx (ix2 k 0)).toInt = (e.val : ℤ) then upd (ix1 k) else 0 : EReal) := by
  classical
  show (x (ix1 e) + ∑ j ∈ Finset.univ.filter (fun j => d.resultIdx? j idx = some (ix1 e)), upd j : EReal) = _
  refine congrArg (fun z : EReal => x (ix1 e) + z) ?_
  rw [Finset.sum_filter, ← Equiv.sum_comp (idxEquiv1 (n := N)).symm]
  refine Finset.sum_congr rfl fun k _ => ?_
  exact if_congr (lands_word d hiw hsd hiv idx k e) rfl rfl

end Cert.Proof.Value

end
-- ==== Proof.Value.RefHist.lean ====
/- The reference's histogram of one image: each bin is the sum over the image of what the elements add there. -/
module

public import proofs.«01_k».proof.Proof.Gen.ReferenceIdeal.Run
public import proofs.«01_k».proof.Proof.Value.Scatter
public import proofs.«01_k».proof.Proof.Value.Element
public import Idealize.ShloMosaic.Lib.Pipeline.Value
public import Idealize.ShloMosaic.Lib.ValueLayout

@[expose] public section

noncomputable section

namespace Cert.Proof.Value

open Cert.ReferenceIdeal Cert.ReferenceIdeal.Gen Cert.ReferenceIdeal.Value
open Idealize.ShloMosaic Idealize.ShloMosaic.ValueIdx
open scoped BigOperators

/-! ## The histogram of a flat image `A` above the minimum `z`, as the reference computes it -/

section

variable {F : FTy → Type} [FloatOps F] (z : FVec F S_ .f32) (A : FVec F S16777216 .f32)

/-- A number at every element. -/
def every (x : FVec F S_ .f32) : FVec F S16777216 .f32 := broadcastInDim S16777216 ![] bcast_S_S16777216 x
/-- Which elements are counted, -/
def rKeep : IVec S16777216 1 := andi (cmpf .oge A (every z)) (cmpf .ole A (every (constant S_ .f32 0x00000000#32)))
/-- their distances in bins, -/
def rDist : FVec F S16777216 .f32 :=
  Host.divf (subf A (every z)) (every (Host.divf (subf (constant S_ .f32 0x00000000#32) z) (constant S_ .f32 0x437F0000#32)))
/-- fractions, -/
def rFrac : FVec F S16777216 .f32 := subf (rDist z A) (Host.floor (rDist z A))
/-- bins, -/
def rBin : IVec S16777216 32 := fptosi 32 (select (rKeep z A) (Host.floor (rDist z A)) (every (constant S_ .f32 0x00000000#32)))
/-- next bins, -/
def rNext : IVec S16777216 32 := addi (rBin z A) (broadcastInDim S16777216 ![] bcast_S_S16777216 (constantI S_ 32 1#32))
/-- index words for the scatter, -/
def rWords (i : IVec S16777216 32) : IVec S16777216x1 32 :=
  broadcastInDim S16777216x1 ![0] bcast_S16777216_S16777216x1_0
    (select (cmpi .slt i (broadcastInDim S16777216 ![] bcast_S_S16777216 (constantI S_ 32 0#32)))
      (addi i (broadcastInDim S16777216 ![] bcast_S_S16777216 (constantI S_ 32 257#32))) i)
/-- and weights. -/
def rW0 : FVec F S16777216 .f32 := select (rKeep z A) (subf (every (constant S_ .f32 0x3F800000#32)) (rFrac z A)) (every (constant S_ .f32 0x00000000#32))
def rW1 : FVec F S16777216 .f32 := select (rKeep z A) (rFrac z A) (every (constant S_ .f32 0x00000000#32))
/-- The histogram with its last entry, and without. -/
def rHist257 : FVec F S257 .f32 :=
  Host.scatterAdd scatter_S257_S16777216x1_S16777216_n_0_0_1
    (Host.scatterAdd scatter_S257_S16777216x1_S16777216_n_0_0_1 (broadcastInDim S257 ![] bcast_S_S257 (constant S_ .f32 0x00000000#32))
      (rWords (rBin z A)) (rW0 z A))
    (rWords (rNext z A)) (rW1 z A)
def rHist : FVec F S256 .f32 := extractStridedSlice S256 ![0] (rHist257 z A) slices_S257_S256_0

/-- The reference's two histograms are these. -/
theorem v40_eq (V : Valuation τ sig (Elt F)) : res_main_v40 V = rHist (res_main_v0 V) (res_main_v1 V) := rfl
theorem v80_eq (V : Valuation τ sig (Elt F)) : res_main_v80 V = rHist (res_main_v0 V) (res_main_v41 V) := rfl

end

/-! ## Read at one element -/

variable (h : EReal) (A : FVec Ideal S16777216 .f32)

theorem rBin_apply (k : Fin 16777216) : rBin (F := Ideal) (fun _ => h) A (ix1 k) = idxR h (A (ix1 k)) := rfl
theorem rNext_apply (k : Fin 16777216) : rNext (F := Ideal) (fun _ => h) A (ix1 k) = IntOp.addi (idxR h (A (ix1 k))) 1#32 := rfl
theorem rW0_apply (k : Fin 16777216) : rW0 (F := Ideal) (fun _ => h) A (ix1 k) = w0R h (A (ix1 k)) := rfl
theorem rW1_apply (k : Fin 16777216) : rW1 (F := Ideal) (fun _ => h) A (ix1 k) = w1R h (A (ix1 k)) := rfl
theorem rWords_apply (i : IVec S16777216 32) (k : Fin 16777216) : rWords i (ix2 k 0) = wrapW (i (ix1 k)) := by
  unfold rWords
  refine (broadcastInDim_apply (s := S16777216) (t := S16777216x1) ![0] bcast_S16777216_S16777216x1_0 _ (ix2 k (0 : Fin 1)) (ix1 k) (fun a => ?_)).trans rfl
  match a with
  | 0 => rfl

/-- A bin is the sum, over the image, of what the elements add to it. -/
theorem rHist_apply (c : Fin 256) : rHist (F := Ideal) (fun _ => h) A (ix1 c) = (∑ k : Fin 16777216, contR h (A (ix1 k)) c.val : EReal) := by
  have hs : rHist (F := Ideal) (fun _ => h) A (ix1 c) = rHist257 (F := Ideal) (fun _ => h) A (ix1 (⟨c.val, by omega⟩ : Fin 257)) := by
    unfold rHist extractStridedSlice
    refine congrArg (rHist257 (F := Ideal) (fun _ => h) A) (funext fun a => ?_)
    match a with
    | 0 => exact Fin.ext (Nat.zero_add _)
  rw [hs]
  unfold rHist257
  have hz : (broadcastInDim S257 ![] bcast_S_S257 (constant (F := Ideal) S_ .f32 0x00000000#32) (ix1 (⟨c.val, by omega⟩ : Fin 257)) : EReal) = 0 := c0_eq
  rw [scatterAdd_word _ rfl rfl rfl, scatterAdd_word _ rfl rfl rfl, hz, zero_add, ← Finset.sum_add_distrib]
  refine Finset.sum_congr rfl fun k _ => ?_
  unfold contR
  simp only [rWords_apply, rBin_apply, rNext_apply, rW0_apply, rW1_apply]

end Cert.Proof.Value

end
-- ==== Proof.Value.Min.lean ====
/- The kernel's minimum over the image's blocks is the reference's minimum over the image. -/
module

public import proofs.«01_k».proof.Proof.KernelIdeal.Regions
public import Idealize.ShloMosaic.PureOps.Ideal.Laws
public import Idealize.ShloMosaic.Lib.ValueIdx
public import Idealize.ShloMosaic.Lib.Pipeline.Value
public import Idealize.ShloMosaic.Lib.ValueLayout

@[expose] public section

noncomputable section

namespace Cert.Proof.Value

open Cert.KernelIdeal Cert.KernelIdeal.Gen Cert.Proof.KernelIdeal
open Idealize.ShloMosaic Idealize.ShloMosaic.ValueIdx

/-- The pattern of infinity is the top of the extended reals. -/
theorem inf_eq : Ideal.ofBits .f32 0x7F800000#32 = ⊤ := by simp [Ideal.ofBits, Ideal.ieee]

/-- The one element of a one-element vector, as the bodies take it out. -/
theorem extract_one {α : Type} (X : S1.Idx → α) : extractAt ![0, 0, 0] (shapeCast S1x1x1 X shapeCasts_S1_S1x1x1) inpos_S1x1x1_p0_0_0 = X (ix1 (0 : Fin 1)) := by
  unfold extractAt shapeCast
  refine congrArg X (funext fun a => ?_)
  match a with
  | 0 => exact Subsingleton.elim (α := Fin 1) _ _

/-- A bound is below the minimum of a block exactly when it is below each of its elements. -/
theorem le_block (v : Vec Ideal S256x4096 .f32) (z : EReal) : z ≤ (k0_pay1 v : EReal) ↔ ∀ i, z ≤ (v i : EReal) := by
  have e2 := fun X : FVec Ideal S1x256x4096 .f32 => multiReduction_minimumf_eq_fold (F := Ideal) X 0x7F800000#32 reduces_S1x256x4096_S1 (.inl rfl) rfl (ix1 (0 : Fin 1))
  have e0 : k0_pay1 (F := Ideal) v = extractAt ![0, 0, 0] (shapeCast S1x1x1 (multiReduction (F := Ideal) .minimumf [1, 2] S1
      (shapeCast S1x256x4096 v shapeCasts_S256x4096_S1x256x4096) 0x7F800000#32 reduces_S1x256x4096_S1 (.inl rfl) rfl) shapeCasts_S1_S1x1x1) inpos_S1x1x1_p0_0_0 := rfl
  have e1 := e0.trans (extract_one _)
  have e := e1.trans (e2 _)
  rw [e]
  refine (Finset.le_fold_min (b := Ideal.ofBits .f32 0x7F800000#32) (f := fun i => (shapeCast S1x256x4096 v shapeCasts_S256x4096_S1x256x4096 i : EReal)) (c := z)).trans ?_
  rw [inf_eq]
  constructor
  · rintro ⟨-, hz⟩ i
    have := hz (ix3 (0 : Fin 1) (i 0) (i 1)) (Finset.mem_filter.mpr ⟨Finset.mem_univ _, funext fun a => by
      match a with
      | 0 => exact Subsingleton.elim (α := Fin 1) _ _⟩)
    exact le_of_le_of_eq this ((shapeCast_ab_1ab_apply v _ (0 : Fin 1) (i 0) (i 1)).trans (congrArg v (eq_ix2 i).symm))
  · intro hz
    exact ⟨le_top, fun i _ => hz _⟩

/-- Element `(a, b)` of block `t` is element `(256 t + a, b)` of the image. -/
theorem blockOf_apply (A : Vec Ideal S4096x4096 .f32) (t : Fin cfg0.N) (a : Fin 256) (b : Fin 4096) (r : Fin 4096) (hr : r.val = 256 * t.val + a.val) :
    blockOf (F := Ideal) A t (ix2 a b) = A (ix2 r b) := by
  show A (((cfg0.win 0).blk t).view.emb (ix2 a b)) = _
  refine congrArg A (funext fun x => Fin.ext ?_)
  match x with
  | ⟨0, _⟩ =>
    have h16 : t.val < 16 := t.isLt.trans_eq N_0
    have hc : (grid0.coords t 0).val = t.val := by
      rw [Pipeline.Grid.coords_val (G := grid0) t 0 (S := 1) (B := 16) (by decide) rfl]; omega
    show (BitVec.ofNat 32 (grid0.coords t 0).val).toNat * 256 + 1 * a.val = r.val
    rw [hc, hr, BitVec.toNat_ofNat, Nat.mod_eq_of_lt (by omega)]
    omega
  | ⟨1, _⟩ => show 0 * 4096 + 1 * b.val = b.val; omega

/-- A bound is below the running minimum exactly when it is below each element of the blocks so far. -/
theorem le_runMin (A : Vec Ideal S4096x4096 .f32) (z : EReal) (n : ℕ) (hn : n < cfg0.N) :
    z ≤ (runMin (F := Ideal) A n hn : EReal) ↔ ∀ t : Fin cfg0.N, t.val ≤ n → ∀ i, z ≤ (blockOf (F := Ideal) A t i : EReal) := by
  induction n with
  | zero =>
    refine (le_block _ z).trans ⟨fun h t ht i => ?_, fun h => h _ le_rfl⟩
    obtain rfl : t = ⟨0, hn⟩ := Fin.ext (Nat.le_zero.mp ht)
    exact h i
  | succ n ih =>
    show z ≤ min (runMin (F := Ideal) A n _ : EReal) (k0_pay1 (blockOf (F := Ideal) A ⟨n + 1, hn⟩) : EReal) ↔ _
    rw [le_min_iff, ih, le_block]
    constructor
    · rintro ⟨h1, h2⟩ t ht i
      rcases Nat.lt_or_ge n t.val with h | h
      · obtain rfl : t = ⟨n + 1, hn⟩ := Fin.ext (by show t.val = n + 1; omega)
        exact h2 i
      · exact h1 t h i
    · exact fun h => ⟨fun t ht => h t (Nat.le_succ_of_le ht), h ⟨n + 1, hn⟩ le_rfl⟩

/-- A bound is below the kernel's minimum exactly when it is below every element of the image. -/
theorem le_minOf (A : Vec Ideal S4096x4096 .f32) (z : EReal) : z ≤ (minOf (F := Ideal) A : EReal) ↔ ∀ i, z ≤ (A i : EReal) := by
  unfold minOf
  rw [le_runMin]
  constructor
  · intro h i
    have h0 : (i 0).val < 4096 := (i 0).isLt
    have := h ⟨(i 0).val / 256, by rw [show cfg0.N = 16 from N_0]; omega⟩ (by show (i 0).val / 256 ≤ 15; omega)
      (ix2 (⟨(i 0).val % 256, by omega⟩ : Fin 256) (i 1))
    exact le_of_le_of_eq this ((blockOf_apply A _ _ (i 1) (i 0) (by show (i 0).val = 256 * ((i 0).val / 256) + (i 0).val % 256; omega)).trans
      (congrArg A (eq_ix2 i).symm))
  · intro h t _ i
    have h16 : t.val < 16 := t.isLt.trans_eq N_0
    have h0 : (i 0).val < 256 := (i 0).isLt
    exact le_of_le_of_eq (h (ix2 (⟨256 * t.val + (i 0).val, by omega⟩ : Fin 4096) (i 1)))
      ((congrArg (blockOf (F := Ideal) A t) (eq_ix2 i)).trans (blockOf_apply A t (i 0) (i 1) ⟨256 * t.val + (i 0).val, by omega⟩ rfl)).symm

/-- The same for a minimum the host takes over the whole image. -/
theorem le_hostMin (A : FVec Ideal S4096x4096 .f32) (h : S4096x4096.ReducesTo [0, 1] S_) (hu : 0 < S_.numel) (z : EReal) (j : S_.Idx) :
    z ≤ (show EReal from Host.reduce (FloatOps.minimumf (F := Ideal) (φ := .f32)) A (constant (F := Ideal) S_ .f32 0x7F800000#32) h hu j) ↔ ∀ i, z ≤ (A i : EReal) := by
  have e := Host.reduce_eq_fold (FloatOps.minimumf (F := Ideal) (φ := .f32)) A (constant (F := Ideal) S_ .f32 0x7F800000#32) h hu j
  rw [e]
  refine (Finset.le_fold_min (b := Ideal.ofBits .f32 0x7F800000#32) (f := fun i => (A i : EReal)) (c := z)).trans ?_
  rw [inf_eq]
  exact ⟨fun hz i => hz.2 i (Finset.mem_filter.mpr ⟨Finset.mem_univ _, funext fun a => a.elim0⟩), fun hz => ⟨le_top, fun i _ => hz i⟩⟩

/-- The two minima are one. -/
theorem minOf_eq (A : Vec Ideal S4096x4096 .f32) (h : S4096x4096.ReducesTo [0, 1] S_) (hu : 0 < S_.numel) :
    Host.reduce (FloatOps.minimumf (F := Ideal) (φ := .f32)) A (constant (F := Ideal) S_ .f32 0x7F800000#32) h hu = fun _ => minOf (F := Ideal) A := by
  funext j
  have e := le_hostMin A h hu
  generalize Host.reduce (FloatOps.minimumf (F := Ideal) (φ := .f32)) A (constant (F := Ideal) S_ .f32 0x7F800000#32) h hu = X at e ⊢
  exact le_antisymm (α := EReal) ((le_minOf A _).mpr ((e _ j).mp le_rfl)) ((e _ j).mpr ((le_minOf A _).mp le_rfl))

end Cert.Proof.Value

end
-- ==== Proof.Value.Kl.lean ====
/- The divergence of two histograms: the kernel's last body and the reference's last operations compute the same number. -/
module

public import proofs.«01_k».proof.Proof.Value.Min
public import proofs.«01_k».proof.Proof.Gen.ReferenceIdeal.Run
public import Idealize.ShloMosaic.Lib.ValueIdxRank1

@[expose] public section

noncomputable section

namespace Cert.Proof.Value

open Idealize.ShloMosaic Idealize.ShloMosaic.ValueIdx
open scoped BigOperators

/-! ## The divergence as a number -/

/-- The small number added everywhere. -/
abbrev epsE : EReal := Ideal.ofBits .f32 0x2EDBE6FF#32
/-- A histogram divided by its sum, -/
def nrmE (a : Fin 256 → EReal) (c : Fin 256) : EReal := Ideal.div (a c + epsE) ((∑ k, a k) + epsE)
/-- the target's logarithm, -/
def tgtE (a b : Fin 256 → EReal) (c : Fin 256) : EReal := Ideal.log (Ideal.div (nrmE b c + epsE) (nrmE a c))
/-- the input's, -/
def inpE (b : Fin 256 → EReal) (c : Fin 256) : EReal := Ideal.log (Ideal.div (nrmE b c + epsE) (nrmE b c))
/-- and their divergence. -/
def klE (a b : Fin 256 → EReal) : EReal :=
  Ideal.div (∑ c, Ideal.exp (tgtE a b c) * (tgtE a b c - inpE b c)) (Ideal.ofBits .f32 0x43800000#32)

/-! ## The kernel's body -/

section Kernel

open Cert.KernelIdeal Cert.KernelIdeal.Gen

/-- The body's sum of a row, -/
def totV (X : FVec Ideal S1x256 .f32) : Ideal .f32 :=
  extractAt ![0, 0, 0] (shapeCast S1x1x1 (multiReduction .add [1, 2] S1 (shapeCast S1x1x256 X shapeCasts_S1x256_S1x1x256) 0x00000000#32
    reduces_S1x1x256_S1 (.inl rfl) rfl) shapeCasts_S1_S1x1x1) inpos_S1x1x1_p0_0_0
/-- the row with the small number added, -/
def epsV (X : FVec Ideal S1x256 .f32) : FVec Ideal S1x256 .f32 := addf X (broadcast S1x256 (Scalar.ofBits .f32 0x2EDBE6FF#32 : Ideal .f32))
/-- the row over its sum, -/
def nrmV (X : FVec Ideal S1x256 .f32) : FVec Ideal S1x256 .f32 :=
  divf (epsV X) (broadcast S1x256 (Scalar.addf (totV X) (Scalar.ofBits .f32 0x2EDBE6FF#32) : Ideal .f32))
/-- the two logarithms, -/
def tgtV (X Y : FVec Ideal S1x256 .f32) : FVec Ideal S1x256 .f32 := log (divf (epsV (nrmV Y)) (nrmV X))
def inpV (Y : FVec Ideal S1x256 .f32) : FVec Ideal S1x256 .f32 := log (divf (epsV (nrmV Y)) (nrmV Y))
/-- and the divergence. -/
def klV (X Y : FVec Ideal S1x256 .f32) : Ideal .f32 :=
  Scalar.divf (totV (mulf (exp (tgtV X Y)) (subf (tgtV X Y) (inpV Y)))) (Scalar.ofBits .f32 0x43800000#32)

/-- The rows summed. -/
def sumV (M : FVec Ideal S512x1024 .f32) : FVec Ideal S1x1024 .f32 :=
  shapeCast S1x1024 (multiReduction .add [0] S1024 (shapeCast S512x1024 M shapeCasts_S512x1024_S512x1024) 0x00000000#32 reduces_S512x1024_S1024
    (.inl rfl) rfl) shapeCasts_S1024_S1x1024

theorem pay_eq (M : FVec Ideal S512x1024 .f32) :
    k2_pay1 (F := Ideal) M = klV (extractStridedSlice S1x256 ![0, 0] (sumV M) slices_S1x1024_o0_0_S1x256)
      (extractStridedSlice S1x256 ![0, 512] (sumV M) slices_S1x1024_o0_512_S1x256) := rfl

theorem totV_eq (X : FVec Ideal S1x256 .f32) : (totV X : EReal) = ∑ c : Fin 256, X (ix2 (0 : Fin 1) c) := by
  unfold totV
  have e2 := fun Y : FVec Ideal S1x1x256 .f32 => Ideal.multiReduction_add_total Y 0x00000000#32 reduces_S1x1x256_S1 (fun b => by
    match b with
    | 0 => rfl) (.inl rfl) rfl (ix1 (0 : Fin 1))
  refine ((extract_one _).trans (e2 _)).trans ?_
  refine (Equiv.sum_comp (Shape.reshapeEquiv shapeCasts_S1x256_S1x1x256) X).trans ?_
  refine (sum_idx2 X).trans ?_
  exact Fin.sum_univ_one _

theorem nrmV_apply (X : FVec Ideal S1x256 .f32) (a : Fin 256 → EReal) (ha : ∀ c, X (ix2 (0 : Fin 1) c) = a c) (c : Fin 256) :
    nrmV X (ix2 (0 : Fin 1) c) = nrmE a c := by
  show Ideal.div (X (ix2 (0 : Fin 1) c) + epsE) (totV X + epsE) = _
  unfold nrmE
  rw [totV_eq, ha]
  simp only [ha]

theorem klV_eq (X Y : FVec Ideal S1x256 .f32) (a b : Fin 256 → EReal) (ha : ∀ c, X (ix2 (0 : Fin 1) c) = a c)
    (hb : ∀ c, Y (ix2 (0 : Fin 1) c) = b c) : klV X Y = klE a b := by
  have ht : ∀ c, tgtV X Y (ix2 (0 : Fin 1) c) = tgtE a b c := fun c => by
    show Ideal.log (Ideal.div (nrmV Y (ix2 (0 : Fin 1) c) + epsE) (nrmV X (ix2 (0 : Fin 1) c))) = _
    rw [nrmV_apply X a ha, nrmV_apply Y b hb]; rfl
  have hi : ∀ c, inpV Y (ix2 (0 : Fin 1) c) = inpE b c := fun c => by
    show Ideal.log (Ideal.div (nrmV Y (ix2 (0 : Fin 1) c) + epsE) (nrmV Y (ix2 (0 : Fin 1) c))) = _
    rw [nrmV_apply Y b hb]; rfl
  show Ideal.div (totV (mulf (exp (tgtV X Y)) (subf (tgtV X Y) (inpV Y)))) _ = _
  rw [totV_eq]
  unfold klE
  refine congrArg (fun z => Ideal.div z _) (Finset.sum_congr rfl fun c _ => ?_)
  show Ideal.exp (tgtV X Y (ix2 (0 : Fin 1) c)) * (tgtV X Y (ix2 (0 : Fin 1) c) - inpV Y (ix2 (0 : Fin 1) c)) = _
  rw [ht, hi]

theorem sumV_apply (M : FVec Ideal S512x1024 .f32) (c : Fin 1024) : sumV M (ix2 (0 : Fin 1) c) = ∑ r : Fin 512, (M (ix2 r c) : EReal) := by
  unfold sumV
  have e2 := fun Y : FVec Ideal S512x1024 .f32 => Ideal.multiReduction_add_single Y 0x00000000#32 reduces_S512x1024_S1024 (.inl rfl) rfl (ix1 c)
  refine ((shapeCast_a_1a_apply _ _ (0 : Fin 1) c).trans (e2 _)).trans (Finset.sum_congr rfl fun r _ => ?_)
  refine (shapeCast_apply M _ _ _ rfl).trans (congrArg M ?_)
  funext a
  match a with
  | 0 => rfl
  | 1 => rfl

/-- The kernel's loss from its partial histograms. -/
theorem pay_klE (M : FVec Ideal S512x1024 .f32) (a b : Fin 256 → EReal)
    (ha : ∀ c : Fin 256, ∑ r : Fin 512, (M (ix2 r (⟨c.val, by omega⟩ : Fin 1024)) : EReal) = a c)
    (hb : ∀ c : Fin 256, ∑ r : Fin 512, (M (ix2 r (⟨512 + c.val, by omega⟩ : Fin 1024)) : EReal) = b c) :
    k2_pay1 (F := Ideal) M = klE a b := by
  rw [pay_eq]
  refine klV_eq _ _ a b (fun c => ?_) (fun c => ?_)
  · exact ((slice2_axis1_apply 0 (sumV M) _ (0 : Fin 1) c ⟨c.val, by omega⟩ (Nat.zero_add _).symm).trans (sumV_apply M _)).trans (ha c)
  · exact ((slice2_axis1_apply 512 (sumV M) _ (0 : Fin 1) c ⟨512 + c.val, by omega⟩ rfl).trans (sumV_apply M _)).trans (hb c)

end Kernel

/-! ## The reference's operations -/

section Reference

open Cert.ReferenceIdeal Cert.ReferenceIdeal.Gen Cert.ReferenceIdeal.Value

theorem hostTotal (x : FVec Ideal S256 .f32) (j : S_.Idx) :
    (Host.reduceAdd x (constant S_ .f32 0x00000000#32) reducesTo_S256_S_d0 h_S_ j : EReal) = ∑ c : Fin 256, x (ix1 c) := by
  refine (Ideal.hostReduceAdd_total reducesTo_S256_S_d0 (fun b => b.elim0) x (Ideal.ofBits .f32 0x00000000#32) j).trans ?_
  rw [Ideal.ofBits_zero_f32, zero_add]
  exact (Equiv.sum_comp (idxEquiv1 (n := 256)).symm x).symm

variable (x y : FVec Ideal S256 .f32)

/-- A histogram over its sum, and the two logarithms, as the reference computes them. -/
def rEps (x : FVec Ideal S256 .f32) : FVec Ideal S256 .f32 := addf x (broadcastInDim S256 ![] bcast_S_S256 (constant S_ .f32 0x2EDBE6FF#32))
def rNrm : FVec Ideal S256 .f32 :=
  Host.divf (rEps x) (broadcastInDim S256 ![] bcast_S_S256 (addf (Host.reduceAdd x (constant S_ .f32 0x00000000#32) reducesTo_S256_S_d0 h_S_) (constant S_ .f32 0x2EDBE6FF#32)))
def rTgt : FVec Ideal S256 .f32 := Host.log (Host.divf (rEps (rNrm y)) (rNrm x))
def rInp : FVec Ideal S256 .f32 := Host.log (Host.divf (rEps (rNrm y)) (rNrm y))
/-- The loss of two histograms, as the reference computes it. -/
def rLoss : FVec Ideal S_ .f32 :=
  Host.divf (Host.reduceAdd (mulf (Host.exp (rTgt x y)) (subf (rTgt x y) (rInp y))) (constant S_ .f32 0x00000000#32) reducesTo_S256_S_d0 h_S_) (constant S_ .f32 0x43800000#32)

theorem rNrm_apply (a : Fin 256 → EReal) (ha : ∀ c, x (ix1 c) = a c) (c : Fin 256) : rNrm x (ix1 c) = nrmE a c := by
  unfold nrmE
  simp only [← ha]
  refine congrArg (Ideal.div (x (ix1 c) + epsE)) ?_
  exact congrArg (fun z : EReal => z + epsE) (hostTotal x _)

theorem rLoss_eq (a b : Fin 256 → EReal) (ha : ∀ c, x (ix1 c) = a c) (hb : ∀ c, y (ix1 c) = b c) : rLoss x y = fun _ => klE a b := by
  have ht : ∀ c, rTgt x y (ix1 c) = tgtE a b c := fun c => by
    show Ideal.log (Ideal.div (rNrm y (ix1 c) + epsE) (rNrm x (ix1 c))) = _
    rw [rNrm_apply x a ha, rNrm_apply y b hb]; rfl
  have hi : ∀ c, rInp y (ix1 c) = inpE b c := fun c => by
    show Ideal.log (Ideal.div (rNrm y (ix1 c) + epsE) (rNrm y (ix1 c))) = _
    rw [rNrm_apply y b hb]; rfl
  funext j
  unfold klE
  refine congrArg (fun z => Ideal.div z _) ((hostTotal _ j).trans (Finset.sum_congr rfl fun c _ => ?_))
  show Ideal.exp (rTgt x y (ix1 c)) * (rTgt x y (ix1 c) - rInp y (ix1 c)) = _
  rw [ht, hi]

/-- The reference's loss is that of its two histograms. -/
theorem loss_eq (V : Valuation τ sig (Elt Ideal)) :
    Host.divf (Host.reduceAdd (mulf (Host.exp (res_main_v100 V)) (subf (res_main_v100 V) (Host.log (Host.divf (addf (res_main_v92 V) (broadcastInDim S256 ![] bcast_S_S256 (constant S_ .f32 0x2EDBE6FF#32))) (res_main_v92 V)))))
      (constant S_ .f32 0x00000000#32) reducesTo_S256_S_d0 h_S_) (constant S_ .f32 0x43800000#32) = rLoss (res_main_v40 V) (res_main_v80 V) := rfl

end Reference

end Cert.Proof.Value

end
-- ==== Proof.Value.Loss.lean ====
/- The kernel's loss and the reference's, from the same images, are one number. -/
module

public import proofs.«01_k».proof.Proof.Value.Columns
public import proofs.«01_k».proof.Proof.Value.RefHist
public import proofs.«01_k».proof.Proof.Value.Kl

@[expose] public section

noncomputable section

namespace Cert.Proof.Value

open Idealize.ShloMosaic Idealize.ShloMosaic.ValueIdx
open scoped BigOperators

/-- The divergence of the two images' histograms above the minimum `h`. -/
def lossE (h : EReal) (A B : Vec Ideal ⟨1, ![16777216]⟩ .f32) : EReal :=
  klE (fun c => colK h A c.val) (fun c => colK h B c.val)

/-- A sum over a flat image's indices is the sum over its positions. -/
theorem sum_flat {n N : ℕ} (hn : n = N) (f : ℕ → EReal) : ∑ k : Fin n, f k.val = ∑ e ∈ Finset.range N, f e := by
  subst hn; exact Fin.sum_univ_eq_sum_range f n

/-- The reference's histogram is the kernel's, above a minimum that is not zero. -/
theorem rHist_col (h : EReal) (h0 : h ≠ 0) (A : Vec Ideal ⟨1, ![16777216]⟩ .f32) (c : Fin 256) :
    rHist (F := Ideal) (fun _ => h) A (ix1 c) = colK h A c.val := by
  refine (rHist_apply h A c).trans ?_
  unfold colK
  refine Eq.trans (Finset.sum_congr rfl fun k _ => ?_) (sum_flat (by norm_num : 16777216 = 524288 * 32) fun e => contK h (at' A e) c.val)
  rw [contR_eq h _ h0]
  refine congrArg (fun x => contK h x c.val) (congrArg A (funext fun a => ?_))
  match a with
  | 0 => exact Fin.ext (Nat.mod_eq_of_lt k.isLt).symm

section Kernel

open Cert.KernelIdeal Cert.KernelIdeal.Gen Cert.Proof.KernelIdeal

/-- The kernel's loss. -/
theorem kernel_loss (m : (ℓ : Loc nD τ sig) → Buf (Elt Ideal) ℓ) (d : Dev nD) :
    lossS (F := Ideal) m d = fun _ => lossE (minOf (F := Ideal) (img0 m d)) (flat0 m d) (flat1 m d) := by
  funext j
  have hm : min16 (F := Ideal) m d = fun _ => minOf (F := Ideal) (img0 m d) := rfl
  have hp : partM (F := Ideal) m d = shapeCast S512x1024 (outF (F := Ideal) (min16 m d) (flat0 m d) (flat1 m d)) shapeCasts_S524288_S512x1024 := rfl
  show k2_pay1 (F := Ideal) (partM m d) = _
  rw [hp, hm]
  exact pay_klE _ _ _ (fun c => column_lo _ _ _ ⟨c.val, by omega⟩ c.isLt) (fun c => column_hi _ _ _ ⟨512 + c.val, by omega⟩ c.val rfl c.isLt)

end Kernel

section Reference

open Cert.ReferenceIdeal Cert.ReferenceIdeal.Gen Cert.ReferenceIdeal.Value

/-- The reference's loss of the images `A` and `B`. -/
theorem reference_loss (V : Valuation τ sig (Elt Ideal)) (A B : FVec Ideal S4096x4096 .f32) (hA : V (Proc.devRef .tc main_arg0) = A)
    (hB : V (Proc.devRef .tc main_arg1) = B) (h0 : (Cert.Proof.KernelIdeal.minOf (F := Ideal) A : EReal) ≠ 0) :
    rLoss (res_main_v40 V) (res_main_v80 V) = fun _ => lossE (Cert.Proof.KernelIdeal.minOf (F := Ideal) A)
      (shapeCast S16777216 A shapeCasts_S4096x4096_S16777216) (shapeCast S16777216 B shapeCasts_S4096x4096_S16777216) := by
  have e0 : res_main_v0 V = fun _ => Cert.Proof.KernelIdeal.minOf (F := Ideal) A := by
    rw [← hA]; exact minOf_eq _ _ _
  have e1 : res_main_v1 V = shapeCast S16777216 A shapeCasts_S4096x4096_S16777216 := by rw [← hA]; rfl
  have e41 : res_main_v41 V = shapeCast S16777216 B shapeCasts_S4096x4096_S16777216 := by rw [← hB]; rfl
  rw [v40_eq, v80_eq, e0, e1, e41]
  exact rLoss_eq _ _ _ _ (fun c => rHist_col _ h0 _ c) (fun c => rHist_col _ h0 _ c)

end Reference

end Cert.Proof.Value

end
-- ==== Proof.lean ====
/- The certificate: the kernel's run, at machine floats and at extended reals, the reference's run, and the two losses' agreement. -/
module

public import proofs.«01_k».proof.Defs
public import proofs.«01_k».proof.Proof.KernelIdeal.Main
public import proofs.«01_k».proof.Proof.Kernel.Main
public import proofs.«01_k».proof.Proof.Value.Loss
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's run on machine floats terminates, leaves its arguments, and every semaphore at zero. -/
theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Kernel.run_main (F := Bits) m ρ)

/-- The same on extended reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (KernelIdeal.run_main (F := Ideal) m ρ)

/-- The reference's run on extended reals terminates and leaves its arguments; it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The side conditions of the precondition's own operations. -/
theorem preFacts : Cert.Pre_min_nonzero.Facts :=
  ⟨Cert.ReferenceIdeal.Gen.facts.reducesTo_S4096x4096_S_d0_1, Cert.ReferenceIdeal.Gen.facts.h_S_⟩

/-- A scalar that compares unordered-or-unequal to zero is not zero. -/
theorem ne_of_une (X : FVec Ideal Cert.Pre_min_nonzero.S_ .f32)
    (h : cmpf .une X (constant Cert.Pre_min_nonzero.S_ .f32 0x00000000#32) = fun _ => 1#1) : (X ValueIdx.ix0 : EReal) ≠ 0 := by
  intro h0
  have h' : Ideal.cmp .une (X ValueIdx.ix0) Value.c0 = 1#1 := congrFun h ValueIdx.ix0
  rw [h0, Value.c0_eq] at h'
  simp [Ideal.cmp] at h'

/-- Under the precondition, the minimum that the kernel takes of the first image is not zero. -/
theorem min_ne_zero (m : (ℓ : Loc Cert.KernelIdeal.nD Cert.KernelIdeal.τ Cert.KernelIdeal.sig) → Buf (Elt Ideal) ℓ)
    (hm : Cert.Pre_KernelIdeal_min_nonzero (hPre_min_nonzero := preFacts) m) (c : Dev Cert.KernelIdeal.nD) :
    (KernelIdeal.minOf (F := Ideal) (KernelIdeal.img0 m c) : EReal) ≠ 0 := by
  have e := Value.minOf_eq (KernelIdeal.img0 m c) preFacts.reducesTo_S4096x4096_S_d0_1 preFacts.h_S_
  have h := ne_of_une _ (hm c)
  exact fun h0 => h ((congrFun e ValueIdx.ix0).trans h0)

/-- From the same images, the kernel and the reference end with the same loss, the first image's minimum not being zero. -/
theorem algebraic : Cert.algebraic_KernelIdeal_ReferenceIdeal_pre_min_nonzero (hKernelIdeal := Cert.KernelIdeal.Gen.facts)
    (hReferenceIdeal := Cert.ReferenceIdeal.Gen.facts) (hPre_min_nonzero := preFacts) := fun m g m' g' hm hargs =>
  ⟨fun c => KernelIdeal.lossS m c,
    (θ_run Cert.KernelIdeal.defs _ _).mono (fun _ h c => ⟨(h.1 c).2.2, (h.1 c).1, (h.1 c).2.1⟩) (KernelIdeal.run_main (F := Ideal) m g),
    (θ_run Cert.ReferenceIdeal.defs _ _).mono (fun _ h c => ⟨(h c).1.trans ((Value.loss_eq _).trans
        ((Value.reference_loss _ (KernelIdeal.img0 m c) (KernelIdeal.img1 m c) (hargs c).1 (hargs c).2 (min_ne_zero m hm c)).trans
          (Value.kernel_loss m c).symm)), (h c).2⟩)
      (Cert.ReferenceIdeal.Value.run (F := Ideal) m' g')⟩

theorem claim : Cert.Claim := ⟨Cert.Kernel.Gen.facts, Cert.KernelIdeal.Gen.facts, Cert.ReferenceIdeal.Gen.facts, preFacts,
  frame_kernel, frame_kernelIdeal, fun m g _ => frame_kernelIdeal m g trivial, frame_referenceIdeal,
  fun m g _ => frame_referenceIdeal m g trivial, trivial, algebraic⟩

end Cert.Proof

end
